-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4 : Shape := ⟨1, ![4]⟩
abbrev S_ : Shape := ⟨0, ![]⟩
abbrev S4096x2048 : Shape := ⟨2, ![4096, 2048]⟩
abbrev S8x128 : Shape := ⟨2, ![8, 128]⟩
abbrev S4096x256 : Shape := ⟨2, ![4096, 256]⟩
abbrev S1 : Shape := ⟨1, ![1]⟩
abbrev S4x1024x2048 : Shape := ⟨3, ![4, 1024, 2048]⟩
abbrev S4x8x128 : Shape := ⟨3, ![4, 8, 128]⟩
abbrev S24 : Shape := ⟨1, ![24]⟩
abbrev S1024x256 : Shape := ⟨2, ![1024, 256]⟩
abbrev S1x1024x256 : Shape := ⟨3, ![1, 1024, 256]⟩
abbrev S1x1x1 : Shape := ⟨3, ![1, 1, 1]⟩
abbrev S1024x2048 : Shape := ⟨2, ![1024, 2048]⟩
abbrev S1x1024x2048 : Shape := ⟨3, ![1, 1024, 2048]⟩
abbrev S1x8x128 : Shape := ⟨3, ![1, 8, 128]⟩
abbrev S512x2048 : Shape := ⟨2, ![512, 2048]⟩
abbrev S1x1 : Shape := ⟨2, ![1, 1]⟩

abbrev nBuf : Space → Nat
  | .hbm => 16
  | .vmem => 12
  | .smem => 2
  | _ => 0

abbrev bufTy : (tb : Table) → Fin (tcTables nBuf tb) → BufTy
  | .hbm, ⟨0, _⟩ => ⟨S1024x4096, .bf16⟩
  | .hbm, ⟨1, _⟩ => ⟨S4096x8192, .bf16⟩
  | .hbm, ⟨2, _⟩ => ⟨S4, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4096x2048, .bf16⟩
  | .hbm, ⟨14, _⟩ => ⟨S8x128, .f32⟩
  | .hbm, ⟨15, _⟩ => ⟨S4096x2048, .f32⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S8x128, .f32⟩
  | .local _ .vmem, ⟨4, _⟩ => ⟨S4x1024x2048, .bf16⟩
  | .local _ .vmem, ⟨5, _⟩ => ⟨S8x128, .f32⟩
  | .local _ .vmem, ⟨6, _⟩ => ⟨S4x8x128, .f32⟩
  | .local _ .vmem, ⟨7, _⟩ => ⟨S512x2048, .bf16⟩
  | .local _ .vmem, ⟨8, _⟩ => ⟨S512x2048, .bf16⟩
  | .local _ .vmem, ⟨9, _⟩ => ⟨S8x128, .f32⟩
  | .local _ .vmem, ⟨10, _⟩ => ⟨S512x2048, .f32⟩
  | .local _ .vmem, ⟨11, _⟩ => ⟨S512x2048, .f32⟩
  | .local _ .smem, ⟨0, _⟩ => ⟨S4, .i32⟩
  | .local _ .smem, ⟨1, _⟩ => ⟨S1, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch2 : Ref sig .tc := ⟨.vmem, 5, rfl⟩
abbrev cc0_scratch3 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_scratch1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 61
abbrev cc1_sem0_1 : DmaSem sig := 62
abbrev cc1_sem1_0 : DmaSem sig := 63
abbrev cc1_sem2_0 : DmaSem sig := 64
abbrev cc1_sem2_1 : DmaSem sig := 65
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v37 : BitVec 32 := Scalar.addi v2 c1_i32_12
  let c4_i32_13 : BitVec 32 := 4#32
  let v38 : BitVec 32 := Scalar.remsi v37 c4_i32_13
  let c1_i32_15 : BitVec 32 := 1#32
  let v39 : BitVec 32 := Scalar.muli v38 c1_i32_15
  let v40 : BitVec 32 := Scalar.addi c0_i32_16 v39
  v40.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v41 : BitVec 32 := Scalar.addi v2 c2_i32
  let c4_i32_17 : BitVec 32 := 4#32
  let v42 : BitVec 32 := Scalar.remsi v41 c4_i32_17
  let c1_i32_19 : BitVec 32 := 1#32
  let v43 : BitVec 32 := Scalar.muli v42 c1_i32_19
  let v44 : BitVec 32 := Scalar.addi c0_i32_20 v43
  v44.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_21 : BitVec 32 := 3#32
  let v45 : BitVec 32 := Scalar.addi v2 c3_i32_21
  let c4_i32_22 : BitVec 32 := 4#32
  let v46 : BitVec 32 := Scalar.remsi v45 c4_i32_22
  let c1_i32_24 : BitVec 32 := 1#32
  let v47 : BitVec 32 := Scalar.muli v46 c1_i32_24
  let v48 : BitVec 32 := Scalar.addi c0_i32_25 v47
  v48.toNat
def k0_off2 (i : grid0.Coords) : Fin 3 → Nat :=
  let arg0 : BitVec 32 := BitVec.ofNat 32 (i 0).val
  let v23 : Index := Scalar.indexCast arg0
  let c0_8 : Index := 0#32
  let arg1 : BitVec 32 := BitVec.ofNat 32 (i 1).val
  let c256_i32 : BitVec 32 := 256#32
  let v22 : BitVec 32 := Scalar.muli arg1 c256_i32
  let v24 : Index := Scalar.indexCast v22
  ![v23.toNat, 0, v24.toNat]
def k0_cond2 (i : grid0.Coords) : BitVec 1 :=
  let arg0 : BitVec 32 := BitVec.ofNat 32 (i 0).val
  let c3_i32 : BitVec 32 := 3#32
  let v28 : BitVec 1 := Scalar.cmpi .slt arg0 c3_i32
  let v29 : BitVec 32 := Scalar.extui v28
  let c0_i32_9 : BitVec 32 := 0#32
  let v30 : BitVec 1 := Scalar.cmpi .ne v29 c0_i32_9
  v30

def k0_off3 (i : grid0.Coords) : Fin 1 → Nat :=
  let arg0 : BitVec 32 := BitVec.ofNat 32 (i 0).val
  let v43 : Index := Scalar.indexCast arg0
  ![v43.toNat]
def k0_off4 (i : grid0.Coords) : Fin 1 → Nat :=
  let arg0 : BitVec 32 := BitVec.ofNat 32 (i 0).val
  let c8_i32 : BitVec 32 := 8#32
  let v39 : BitVec 32 := Scalar.muli arg0 c8_i32
  let arg1 : BitVec 32 := BitVec.ofNat 32 (i 1).val
  let v40 : BitVec 32 := Scalar.addi v39 arg1
  ![v40.toNat]
def k0_off5 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v37 : BitVec 32 := Scalar.muli v2 c1024_i32
  let arg1 : BitVec 32 := BitVec.ofNat 32 (i 1).val
  let c256_i32_13 : BitVec 32 := 256#32
  let v38 : BitVec 32 := Scalar.muli arg1 c256_i32_13
  ![v37.toNat, v38.toNat]
def k0_off6 (i : grid0.Coords) : Fin 3 → Nat :=
  let arg0 : BitVec 32 := BitVec.ofNat 32 (i 0).val
  let c0_i32_17 : BitVec 32 := 0#32
  let arg1 : BitVec 32 := BitVec.ofNat 32 (i 1).val
  let c256_i32_12 : BitVec 32 := 256#32
  let v36 : BitVec 32 := Scalar.muli arg1 c256_i32_12
  ![arg0.toNat, 0, v36.toNat]
def k0_dev4 (v44 : BitVec 32) : Nat :=
  let c0_i32_16 : BitVec 32 := 0#32
  let c1_i32_15 : BitVec 32 := 1#32
  let v45 : BitVec 32 := Scalar.muli v44 c1_i32_15
  let v46 : BitVec 32 := Scalar.addi c0_i32_16 v45
  v46.toNat

def k0_chk1 (i : grid0.Coords) (v44 : BitVec 32) : Prop :=
  (∀ (k0_h2 : k0_cond2 i = 1#1), (k0_dev4 v44) < nD)
theorem k0_dev4_lt : ∀ (i : grid0.Coords) (v44 : BitVec 32) (k0_hw1 : k0_chk1 i v44), ∀ (k0_h2 : k0_cond2 i = 1#1), (k0_dev4 v44) < nD := fun i v44 k0_hw1 k0_h2 => k0_hw1 k0_h2

def k0_cond3 (i : grid0.Coords) : BitVec 1 :=
  let arg1 : BitVec 32 := BitVec.ofNat 32 (i 1).val
  let c7_i32 : BitVec 32 := 7#32
  let v31 : BitVec 1 := Scalar.cmpi .eq arg1 c7_i32
  let arg0 : BitVec 32 := BitVec.ofNat 32 (i 0).val
  let c3_i32_10 : BitVec 32 := 3#32
  let v32 : BitVec 1 := Scalar.cmpi .eq arg0 c3_i32_10
  let v33 : BitVec 1 := Scalar.andi v31 v32
  let v34 : BitVec 32 := Scalar.extui v33
  let c0_i32_11 : BitVec 32 := 0#32
  let v35 : BitVec 1 := Scalar.cmpi .ne v34 c0_i32_11
  v35

def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v36 : BitVec 32 := Scalar.muli v2 c1024_i32
  let c0_i32_12 : BitVec 32 := 0#32
  ![v36.toNat, 0]
def k0_off8 (i : grid0.Coords) : Fin 3 → Nat :=
  let arg0 : BitVec 32 := BitVec.ofNat 32 (i 0).val
  let c0_i32_13 : BitVec 32 := 0#32
  let c0_i32_14 : BitVec 32 := 0#32
  ![arg0.toNat, 0, 0]
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v45 : BitVec 32 := Scalar.addi v2 c1_i32_18
  let c4_i32_19 : BitVec 32 := 4#32
  let v46 : BitVec 32 := Scalar.remsi v45 c4_i32_19
  let c1_i32_23 : BitVec 32 := 1#32
  let v47 : BitVec 32 := Scalar.muli v46 c1_i32_23
  let v48 : BitVec 32 := Scalar.addi c0_i32_24 v47
  v48.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v55 : BitVec 32 := Scalar.addi v2 c2_i32
  let c4_i32_27 : BitVec 32 := 4#32
  let v56 : BitVec 32 := Scalar.remsi v55 c4_i32_27
  let c1_i32_31 : BitVec 32 := 1#32
  let v57 : BitVec 32 := Scalar.muli v56 c1_i32_31
  let v58 : BitVec 32 := Scalar.addi c0_i32_32 v57
  v58.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_35 : BitVec 32 := 3#32
  let v65 : BitVec 32 := Scalar.addi v2 c3_i32_35
  let c4_i32_36 : BitVec 32 := 4#32
  let v66 : BitVec 32 := Scalar.remsi v65 c4_i32_36
  let c1_i32_40 : BitVec 32 := 1#32
  let v67 : BitVec 32 := Scalar.muli v66 c1_i32_40
  let v68 : BitVec 32 := Scalar.addi c0_i32_41 v67
  v68.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_47 : BitVec 32 := 1024#32
  let v78 : BitVec 32 := Scalar.muli v2 c1024_i32_47
  let c0_i32_55 : BitVec 32 := 0#32
  ![v78.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_56 : BitVec 32 := 1024#32
  let v85 : BitVec 32 := Scalar.muli v2 c1024_i32_56
  let c256_i32_64 : BitVec 32 := 256#32
  ![v85.toNat, 256]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_65 : BitVec 32 := 1024#32
  let v92 : BitVec 32 := Scalar.muli v2 c1024_i32_65
  let c512_i32_72 : BitVec 32 := 512#32
  ![v92.toNat, 512]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_73 : BitVec 32 := 1024#32
  let v99 : BitVec 32 := Scalar.muli v2 c1024_i32_73
  let c768_i32_80 : BitVec 32 := 768#32
  ![v99.toNat, 768]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_81 : BitVec 32 := 1024#32
  let v106 : BitVec 32 := Scalar.muli v2 c1024_i32_81
  let c1024_i32_89 : BitVec 32 := 1024#32
  ![v106.toNat, 1024]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_90 : BitVec 32 := 1024#32
  let v113 : BitVec 32 := Scalar.muli v2 c1024_i32_90
  let c1280_i32_96 : BitVec 32 := 1280#32
  ![v113.toNat, 1280]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_97 : BitVec 32 := 1024#32
  let v120 : BitVec 32 := Scalar.muli v2 c1024_i32_97
  let c1536_i32_103 : BitVec 32 := 1536#32
  ![v120.toNat, 1536]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_104 : BitVec 32 := 1024#32
  let v127 : BitVec 32 := Scalar.muli v2 c1024_i32_104
  let c1792_i32_111 : BitVec 32 := 1792#32
  ![v127.toNat, 1792]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c8_i32 : BitVec 32 := 8#32
  let v2 : BitVec 32 := Scalar.muli v1 c8_i32
  let v3 : BitVec 32 := Scalar.addi v2 arg1
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Table.lean ====
/-
  The prefetched table: on device `c` the host lists the devices in the order `c + 2, c + 3, c + 1, c` (modulo 4), the order in which
  the kernel computes the column blocks of its product; the last one is its own.
-/
module

public import proofs.«01_k».proof.Proof.Gen.KernelIdeal.Regions
public import proofs.«01_k».proof.Proof.Gen.KernelIdeal
public import Idealize.ShloMosaic.Lib.StableHlo.Run
public import Idealize.ShloMosaic.Lib.Claim

@[expose] public section

noncomputable section

namespace Cert.KernelIdeal

open Idealize.ShloMosaic Idealize.ShloMosaic.TcCoe
open Facts₀ Facts

variable {F : FTy → Type} [FloatOps F]

/-- How far chunk `j` goes from its sender. -/
def hop : Fin 4 → Fin 4 := ![2, 3, 1, 0]

/-- The device whose columns device `c` computes as its chunk `j`. -/
def peer (c : Dev nD) (j : Fin 4) : Dev nD := c + hop j

/-- The table's contents on device `c`. -/
def tbl (c : Dev nD) : (⟨S4, .i32⟩ : BufTy).Contents (Elt F) := fun i => BitVec.ofNat 32 (peer c (i 0)).val

/-- The prefetched contents on device `c`. -/
def tblP (c : Dev nD) : pre0.Contents (Elt F)
  | 0 => tbl c
  | ⟨_ + 1, h⟩ => absurd h (Nat.not_lt.2 (Nat.le_add_left _ _))

theorem tbl_eq (m : (ℓ : Loc nD τ sig) → Buf (Elt F) ℓ) (c : Dev nD) : Gen.V1 m c main_v8 = tbl (F := F) c := by
  unfold_abbrev_sides
  after_results
  funext i
  have hw : ∀ (c : Dev nD) (j : Fin 4), IntOp.remsi .host (IntOp.remui .host (IntOp.divui .host (Dev.word c) 1#32) 4#32 + lit0 j) 4#32
      = BitVec.ofNat 32 (peer c j).val := by decide
  have hr : (S4.rowMajor i : Fin 4) = i 0 := by
    obtain ⟨k, rfl⟩ : ∃ k : Fin 4, i = fun a => match a with | 0 => k := ⟨i 0, funext fun a => by fin_cases a; rfl⟩
    fin_cases k <;> rfl
  exact (congrArg (fun k : Fin 4 => IntOp.remsi .host (IntOp.remui .host (IntOp.divui .host (Dev.word c) 1#32) 4#32 + lit0 k) 4#32) hr).trans
    (hw c (i 0))

/-- The block that window 1 takes at a point: the column block of the device in question, and within it the point's. -/
theorem transform1_eq (c : Dev nD) (i : grid0.Coords) :
    cc0_transform_1 k0_off1_inb numel1_S1 (tblP (F := F) c) i = ![0, (peer c (i 0)).val * 8 + (i 1).val] := by
  have hw : ∀ (c : Dev nD) (a : Fin 4) (b : Fin 8),
      (Scalar.addi (Scalar.muli (BitVec.ofNat 32 (peer c a).val) 8#32) (BitVec.ofNat 32 b.val)).toNat = (peer c a).val * 8 + b.val := by decide
  have ht : (tblP (F := F) c).at 0 (Rect.unit (s := S4) ![(Scalar.indexCast (BitVec.ofNat 32 (i 0).val)).toNat] S1.size (k0_off1_inb i)) numel1_S1
      = BitVec.ofNat 32 (peer c (i 0)).val := by
    have hi : (Rect.unit (s := S4) ![(Scalar.indexCast (BitVec.ofNat 32 (i 0).val)).toNat] S1.size (k0_off1_inb i)).emb
        (Shape.Idx.first (numel1_S1.symm ▸ Nat.one_pos)) 0 = i 0 := by
      have : ∀ a : Fin 4, (Scalar.indexCast (BitVec.ofNat 32 a.val)).toNat = a.val := by decide
      refine Fin.ext ((congrArg (· + 1 * 0) (this (i 0))).trans (Nat.add_zero _))
    exact congrArg (fun k : Fin 4 => BitVec.ofNat 32 (peer c k).val) hi
  refine Eq.trans ?_ (congrArg (fun n : ℕ => (![0, n] : Fin 2 → ℕ)) (hw c (i 0) (i 1)))
  rw [← ht]; rfl

theorem ok_tbl (c : Dev nD) : ok0 (tblP (F := F) c) := by
  intro i
  have hb : ∀ a, (cc0_transform_1 k0_off1_inb numel1_S1 (tblP (F := F) c) i a + 1) * S4096x256.size a ≤ S4096x8192.size a := by
    have hw : ∀ (c : Dev nD) (a : Fin 4) (b : Fin 8) (k : Fin 2),
        ((![0, (peer c a).val * 8 + b.val] : Fin 2 → ℕ) k + 1) * S4096x256.size k ≤ S4096x8192.size k := by decide
    intro a; rw [transform1_eq]; exact hw c (i 0) (i 1) a
  refine ⟨hb, .inr ?_⟩
  have hw : ∀ (c : Dev nD) (a : Fin 4) (b : Fin 8),
      S4096x8192.WholeWordsAt (EltTy.packing .bf16) (fun k => (![0, (peer c a).val * 8 + b.val] : Fin 2 → ℕ) k * S4096x256.size k)
        S4096x256.size (fun _ => 1) := by decide
  have h := hw c (i 0) (i 1)
  rw [← transform1_eq (F := F) c i] at h
  exact h
end Cert.KernelIdeal
end
-- ==== Proof.Values.lean ====
/-
  What the fused kernel computes, device by device: the chunks of the product, the running maximum, and what every buffer holds
  once all copies have landed. The element sets of the pieces that the copies move.
-/
module

public import proofs.«01_k».proof.Proof.Table
public import proofs.«01_k».proof.Proof.Gen.KernelIdeal.Skeleton

@[expose] public section

noncomputable section

namespace Cert.KernelIdeal

open Idealize.ShloMosaic Idealize.ShloMosaic.TcCoe
open Facts₀ Facts

variable {F : FTy → Type} [FloatOps F]

/-- Indices from their coordinates. -/
def ix1 {a : Nat} (x : Fin a) : (⟨1, ![a]⟩ : Shape).Idx := fun k => match k with | 0 => x
def ix2 {a b : Nat} (x : Fin a) (y : Fin b) : (⟨2, ![a, b]⟩ : Shape).Idx := fun k => match k with | 0 => x | 1 => y
def ix3 {a b d : Nat} (x : Fin a) (y : Fin b) (z : Fin d) : (⟨3, ![a, b, d]⟩ : Shape).Idx :=
  fun k => match k with | 0 => x | 1 => y | 2 => z

theorem ix2_eta {a b : Nat} (i : (⟨2, ![a, b]⟩ : Shape).Idx) : ix2 (i 0) (i 1) = i := by
  funext k; fin_cases k <;> rfl
theorem ix3_eta {a b d : Nat} (i : (⟨3, ![a, b, d]⟩ : Shape).Idx) : ix3 (i 0) (i 1) (i 2) = i := by
  funext k; fin_cases k <;> rfl

/-- The chunk by which sender `s` reaches device `c`: `peer s (via s c) = c`. -/
def via (s c : Dev nD) : Fin 4 := (![3, 2, 0, 1] : Fin 4 → Fin 4) (c - s)

theorem peer_via (s c : Dev nD) : peer s (via s c) = c := by revert s c; decide
theorem via_peer (c : Dev nD) (j : Fin 4) : via c (peer c j) = j := by revert c j; decide
theorem via_sub (c : Dev nD) (j : Fin 4) : via (c - hop j) c = j := by revert c j; decide
theorem peer_sub (c : Dev nD) (j : Fin 4) : peer (c - hop j) j = c := by revert c j; decide
theorem peer_three (c : Dev nD) : peer c 3 = c := by revert c; decide

variable (m : (ℓ : Loc nD τ sig) → Buf (Elt F) ℓ)

/-- The device's operands. -/
def X (c : Dev nD) : Vec F S1024x4096 .bf16 := m ((c : Thread nD τ).loc main_arg0)
def W (c : Dev nD) : Vec F S4096x8192 .bf16 := m ((c : Thread nD τ).loc main_arg1)

/-- The 256 columns of `w` that device `c` multiplies as piece `q` of chunk `j`. -/
def wblk (c : Dev nD) (j : Fin 4) (q : Fin 8) : Vec F S4096x256 .bf16 := fun i =>
  W m c (ix2 (i 0) ⟨(peer c j).val * 2048 + q.val * 256 + (i 1).val, by
    have h1 : (i 1).val < 256 := (i 1).isLt
    have h2 : (peer c j).val < 4 := (peer c j).isLt
    have h3 := q.isLt
    omega⟩)

/-- The piece, as it is stored. -/
def chunk (c : Dev nD) (j : Fin 4) (q : Fin 8) : FVec F S1x1024x256 .bf16 := Gen.k0_pay6 (X m c) (wblk m c j q)

/-- The running maximum before point `t`. -/
def amx (c : Dev nD) : ℕ → F .f32
  | 0 => Scalar.ofBits .f32 0x00000000#32
  | t + 1 => Gen.k0_pay5 (X m c) (wblk m c ⟨t / 8 % 4, Nat.mod_lt _ (by decide)⟩ ⟨t % 8, Nat.mod_lt _ (by decide)⟩) (amx c t)

/-- The device's own maximum. -/
def gl (c : Dev nD) : F .f32 := amx m c 32

/-- The product buffer, all chunks stored. -/
def Yb (c : Dev nD) : (⟨S4x1024x2048, .bf16⟩ : BufTy).Contents (Elt F) := fun i =>
  chunk m c (i 0) ⟨(i 2).val / 256, by have h : (i 2).val < 2048 := (i 2).isLt; omega⟩
    (ix3 0 (i 1) ⟨(i 2).val % 256, Nat.mod_lt _ (by decide)⟩)

/-- The exchanged product: rows block `s` comes from device `s`. -/
def Yx (c : Dev nD) : (⟨S4096x2048, .bf16⟩ : BufTy).Contents (Elt F) := fun i =>
  let s : Dev nD := ⟨(i 0).val / 1024, by have h : (i 0).val < 4096 := (i 0).isLt; show _ < 4; omega⟩
  Yb m s (ix3 (via s c) ⟨(i 0).val % 1024, Nat.mod_lt _ (by decide)⟩ (i 1))

/-- The tile that carries the device's maximum. -/
def Tile (c : Dev nD) : Vec F S8x128 .f32 := Gen.k0_pay2 (gl m c)

/-- The maxima received: slot `d` from the device `d` before. -/
def AA (c : Dev nD) : (⟨S4x8x128, .f32⟩ : BufTy).Contents (Elt F) := fun i =>
  Tile m (c - (show Fin 4 from i 0)) (ix2 (i 1) (i 2))

def aaRd (c : Dev nD) (d : Fin 4) : Vec F S1x1x1 .f32 := fun _ => AA m c (ix3 d 0 0)

/-- The global maximum, broadcast. -/
def G (c : Dev nD) : Vec F S8x128 .f32 := Gen.k0_pay1 (Gen.k0_pay3 (gl m c) (aaRd m c 1) (aaRd m c 2)) (aaRd m c 3)

/-! ## The pieces -/

/-- Piece `q` of chunk `j` of the product buffer. -/
def ySet (j : Fin 4) (q : Fin 8) : Finset S4x1024x2048.Idx :=
  Finset.univ.filter fun i => (i 0).val = j.val ∧ (i 2).val / 256 = q.val
/-- Chunk `j` of the product buffer. -/
def ySlab (j : Fin 4) : Finset S4x1024x2048.Idx := Finset.univ.filter fun i => (i 0).val = j.val
/-- Piece `q` of the rows of sender `s` in the exchanged product. -/
def xSet (s : Fin 4) (q : Fin 8) : Finset S4096x2048.Idx :=
  Finset.univ.filter fun i => (i 0).val / 1024 = s.val ∧ (i 1).val / 256 = q.val
/-- The rows of sender `s`. -/
def xRow (s : Fin 4) : Finset S4096x2048.Idx := Finset.univ.filter fun i => (i 0).val / 1024 = s.val
/-- Slot `d` of the received maxima. -/
def aSet (d : Fin 4) : Finset S4x8x128.Idx := Finset.univ.filter fun i => (i 0).val = d.val

theorem mem_ySet {j : Fin 4} {q : Fin 8} {i : S4x1024x2048.Idx} : i ∈ ySet j q ↔ (i 0).val = j.val ∧ (i 2).val / 256 = q.val := by
  unfold ySet; rw [Finset.mem_filter]; exact and_iff_right (Finset.mem_univ _)
theorem mem_ySlab {j : Fin 4} {i : S4x1024x2048.Idx} : i ∈ ySlab j ↔ (i 0).val = j.val := by
  unfold ySlab; rw [Finset.mem_filter]; exact and_iff_right (Finset.mem_univ _)
theorem mem_xSet {s : Fin 4} {q : Fin 8} {i : S4096x2048.Idx} : i ∈ xSet s q ↔ (i 0).val / 1024 = s.val ∧ (i 1).val / 256 = q.val := by
  unfold xSet; rw [Finset.mem_filter]; exact and_iff_right (Finset.mem_univ _)
theorem mem_xRow {s : Fin 4} {i : S4096x2048.Idx} : i ∈ xRow s ↔ (i 0).val / 1024 = s.val := by
  unfold xRow; rw [Finset.mem_filter]; exact and_iff_right (Finset.mem_univ _)
theorem mem_aSet {d : Fin 4} {i : S4x8x128.Idx} : i ∈ aSet d ↔ (i 0).val = d.val := by
  unfold aSet; rw [Finset.mem_filter]; exact and_iff_right (Finset.mem_univ _)

theorem ySlab_eq (j : Fin 4) : ySlab j = Finset.univ.biUnion (ySet j) := by
  ext i
  rw [mem_ySlab, Finset.mem_biUnion]
  have h : (i 2).val < 2048 := (i 2).isLt
  exact ⟨fun hj => ⟨⟨(i 2).val / 256, by omega⟩, Finset.mem_univ _, mem_ySet.mpr ⟨hj, rfl⟩⟩, fun ⟨q, _, hq⟩ => (mem_ySet.mp hq).1⟩
theorem ySet_disj (j : Fin 4) : ((Finset.univ : Finset (Fin 8)) : Set (Fin 8)).PairwiseDisjoint (ySet j) := by
  intro q _ q' _ hq
  refine Finset.disjoint_left.mpr fun i h h' => hq (Fin.ext ?_)
  exact (mem_ySet.mp h).2.symm.trans (mem_ySet.mp h').2
theorem univ_ySlab : (Finset.univ : Finset S4x1024x2048.Idx) = Finset.univ.biUnion ySlab := by
  ext i
  refine ⟨fun _ => Finset.mem_biUnion.mpr ⟨i 0, Finset.mem_univ _, mem_ySlab.mpr rfl⟩, fun _ => Finset.mem_univ _⟩
theorem ySlab_disj : ((Finset.univ : Finset (Fin 4)) : Set (Fin 4)).PairwiseDisjoint ySlab := by
  intro q _ q' _ hq
  refine Finset.disjoint_left.mpr fun i h h' => hq (Fin.ext ?_)
  exact (mem_ySlab.mp h).symm.trans (mem_ySlab.mp h')
theorem xRow_eq (s : Fin 4) : xRow s = Finset.univ.biUnion (xSet s) := by
  ext i
  rw [mem_xRow, Finset.mem_biUnion]
  have h : (i 1).val < 2048 := (i 1).isLt
  exact ⟨fun hj => ⟨⟨(i 1).val / 256, by omega⟩, Finset.mem_univ _, mem_xSet.mpr ⟨hj, rfl⟩⟩, fun ⟨q, _, hq⟩ => (mem_xSet.mp hq).1⟩
theorem xSet_disj (s : Fin 4) : ((Finset.univ : Finset (Fin 8)) : Set (Fin 8)).PairwiseDisjoint (xSet s) := by
  intro q _ q' _ hq
  refine Finset.disjoint_left.mpr fun i h h' => hq (Fin.ext ?_)
  exact (mem_xSet.mp h).2.symm.trans (mem_xSet.mp h').2
theorem univ_xRow : (Finset.univ : Finset S4096x2048.Idx) = Finset.univ.biUnion xRow := by
  ext i
  have h : (i 0).val < 4096 := (i 0).isLt
  refine ⟨fun _ => Finset.mem_biUnion.mpr ⟨⟨(i 0).val / 1024, by omega⟩, Finset.mem_univ _, mem_xRow.mpr rfl⟩, fun _ => Finset.mem_univ _⟩
theorem xRow_disj : ((Finset.univ : Finset (Fin 4)) : Set (Fin 4)).PairwiseDisjoint xRow := by
  intro q _ q' _ hq
  refine Finset.disjoint_left.mpr fun i h h' => hq (Fin.ext ?_)
  exact (mem_xRow.mp h).symm.trans (mem_xRow.mp h')
theorem univ_aSet : (Finset.univ : Finset S4x8x128.Idx) = Finset.univ.biUnion aSet := by
  ext i
  refine ⟨fun _ => Finset.mem_biUnion.mpr ⟨i 0, Finset.mem_univ _, mem_aSet.mpr rfl⟩, fun _ => Finset.mem_univ _⟩
theorem aSet_disj : ((Finset.univ : Finset (Fin 4)) : Set (Fin 4)).PairwiseDisjoint aSet := by
  intro q _ q' _ hq
  refine Finset.disjoint_left.mpr fun i h h' => hq (Fin.ext ?_)
  exact (mem_aSet.mp h).symm.trans (mem_aSet.mp h')

end Cert.KernelIdeal
end
-- ==== Proof.Protocol.lean ====
/-
  The protocol of the fused kernel. One round on every semaphore cell: the barrier cell of a device takes one unit from each of the
  other three, and with it that device's rows and slot to write into; every transfer's cells take the transfer's bytes, and with them
  the pieces it moved, at contents that are named.
-/
module

public import proofs.«01_k».proof.Proof.Values
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

abbrev UU : Type := Rounds.URounds (GSem nD τ sig) Unit × Rounds.URounds (GSem nD τ sig) (Dev nD)

local notation "𝕄" => MT nD τ sig Unit (Elt F) ℕ UU ℕ

abbrev EP : Emb (Rounds.URounds (GSem nD τ sig) Unit) (MT nD τ sig Unit (Elt F) ℕ UU ℕ) := embL
abbrev ER : Emb (Rounds.URounds (GSem nD τ sig) (Dev nD)) (MT nD τ sig Unit (Elt F) ℕ UU ℕ) := embR

/-! ## The cells -/

/-- The kernel's own semaphores: the local copy's; one for every piece sent and one for every piece received; one for every maximum
    sent and one for every maximum received. -/
abbrev CK : Type := Unit ⊕ (((Fin 3 × Fin 8) ⊕ (Fin 3 × Fin 8)) ⊕ (Fin 4 ⊕ Fin 4))

abbrev kCopy : CK := .inl ()
abbrev kSend (x : Fin 3 × Fin 8) : CK := .inr (.inl (.inl x))
abbrev kRecv (x : Fin 3 × Fin 8) : CK := .inr (.inl (.inr x))
abbrev kASend (d : Fin 4) : CK := .inr (.inr (.inl d))
abbrev kARecv (d : Fin 4) : CK := .inr (.inr (.inr d))

def dmaNo : CK → Fin 66
  | .inl () => 60
  | .inr (.inl (.inl x)) => ⟨4 + (8 * x.1.val + x.2.val), by have := x.1.isLt; have := x.2.isLt; omega⟩
  | .inr (.inl (.inr x)) => ⟨28 + (8 * x.1.val + x.2.val), by have := x.1.isLt; have := x.2.isLt; omega⟩
  | .inr (.inr (.inl d)) => ⟨52 + d.val, by omega⟩
  | .inr (.inr (.inr d)) => ⟨56 + d.val, by omega⟩

def osem0 (k : CK) : SemLoc sig := .dma (dmaNo k)

/-- Which of them a semaphore is. -/
def kOf (s : Fin 66) : Option CK :=
  if s.val < 4 then none
  else if h : s.val < 28 then some (kSend (⟨(s.val - 4) / 8, by omega⟩, ⟨(s.val - 4) % 8, by omega⟩))
  else if h : s.val < 52 then some (kRecv (⟨(s.val - 28) / 8, by omega⟩, ⟨(s.val - 28) % 8, by omega⟩))
  else if h : s.val < 56 then some (kASend ⟨s.val - 52, by omega⟩)
  else if h : s.val < 60 then some (kARecv ⟨s.val - 56, by omega⟩)
  else if s.val = 60 then some kCopy else none

theorem kOf_dmaNo : ∀ k : CK, kOf (dmaNo k) = some k := by
  rintro (_ | (x | x) | (d | d))
  · rfl
  · obtain ⟨a, b⟩ := x; fin_cases a <;> fin_cases b <;> rfl
  · obtain ⟨a, b⟩ := x; fin_cases a <;> fin_cases b <;> rfl
  · fin_cases d <;> rfl
  · fin_cases d <;> rfl
theorem dmaNo_inj : Function.Injective dmaNo := fun a b h => by
  have := congrArg kOf h; rw [kOf_dmaNo, kOf_dmaNo] at this; exact Option.some.inj this

abbrev cell (c : Dev nD) (k : CK) : GSem nD τ sig := ((c : Thread nD τ), osem0 k)
abbrev barCell (c : Dev nD) : GSem nD τ sig := ((c : Thread nD τ), .reg barrier0)

/-- Two of them are never used. -/
def live (k : CK) : Prop := k ≠ kASend 0 ∧ k ≠ kARecv 0
instance (k : CK) : Decidable (live k) := by unfold live; infer_instance

/-- The bytes that a piece, a tile, and a device's rows credit. -/
def NC : ℕ := RefSig.tileCredit S1024x256 .bf16
def NA : ℕ := RefSig.tileCredit S8x128 .f32
def NL : ℕ := RefSig.tileCredit S1024x2048 .bf16

def credit : CK → ℕ
  | .inl () => NL
  | .inr (.inl _) => NC
  | .inr (.inr _) => NA

theorem credit_pos (k : CK) : 0 < credit k := by
  rcases k with _ | _ | _
  · exact RefSig.tileCredit_pos _ _ (by decide)
  · exact RefSig.tileCredit_pos _ _ (by decide)
  · exact RefSig.tileCredit_pos _ _ (by decide)

/-! ## The payloads -/

/-- A part of a buffer at a share and contents. -/
abbrev part (c : Dev nD) (b : Ref sig .tc) (S : Finset ((c : Thread nD τ).loc b).ty.1.Idx) (f : Buf (Elt F) ((c : Thread nD τ).loc b)) : sProp 𝕄 :=
  ((c : Thread nD τ).loc b) ↦[S]{fullShare} f
/-- A part of a buffer, whatever it holds. -/
abbrev partAny (c : Dev nD) (b : Ref sig .tc) (S : Finset ((c : Thread nD τ).loc b).ty.1.Idx) : sProp 𝕄 :=
  iprop(∃ f : Buf (Elt F) ((c : Thread nD τ).loc b), ((c : Thread nD τ).loc b) ↦[S]{fullShare} f)

/-- The tile's share that goes with the copy to slot `d`. -/
def shr : Fin 4 → PosShare TreeShare := ![fullShare, fullShare.left, fullShare.right.left, fullShare.right.right]

variable (m : (ℓ : Loc nD τ sig) → Buf (Elt F) ℓ)

/-- That round 0 of every cell of device `p` is reached. -/
def reachedAll (p : Dev nD) : sProp 𝕄 := bigSep Finset.univ fun k : CK => reached ER (cell p k) 0
instance (p : Dev nD) : BI.Persistent (reachedAll (F := F) p) := by unfold reachedAll; infer_instance

/-- Paid to device `c`'s barrier cell by device `p`: the rows of `p`'s exchanged product that `c` writes, the slot of `p`'s maxima that
    `c` writes, and that round 0 of `p`'s cells is reached. -/
def barPay (c p : Dev nD) : sProp 𝕄 :=
  iprop((bigSep Finset.univ fun q : Fin 8 => partAny (F := F) p main_v9_0 (xSet c q))
    ∗ partAny p cc0_scratch3 (aSet (show Fin 4 from p - c)) ∗ reachedAll p)

/-- Paid to the cells of the transfers: what they moved. -/
def pay (c : Dev nD) : CK → sProp 𝕄
  | .inl () => iprop(part c main_v9_0 (xRow c) (Yx m c) ∗ part c cc0_scratch0 (ySlab 3) (Yb m c))
  | .inr (.inl (.inl x)) => part c cc0_scratch0 (ySet x.1.castSucc x.2) (Yb m c)
  | .inr (.inl (.inr x)) => part c main_v9_0 (xSet (c - hop x.1.castSucc) x.2) (Yx m c)
  | .inr (.inr (.inl d)) => ((c : Thread nD τ).loc cc0_scratch2) ↦{shr d} Tile m c
  | .inr (.inr (.inr d)) => part c cc0_scratch3 (aSet d) (AA m c)

instance pay_storable (c : Dev nD) (k : CK) : BI.Storable (upEmb : UEmb _ 𝕄) (pay m c k) := by
  rcases k with _ | (_ | _) | (_ | _) <;> (unfold pay; infer_instance)
instance barPay_storable (c p : Dev nD) : BI.Storable (upEmb : UEmb _ 𝕄) (barPay (F := F) c p) := by
  unfold barPay reachedAll; infer_instance

/-! ## The schedule -/

def Rd : Rounds.Schedule (GSem nD τ sig) (Dev nD) 𝕄 where
  duties g r := if r = 0 ∧ g.1.2 = .tc then
      match g.2 with
      | .reg _ => Finset.univ.erase g.1.1
      | .dma s => (kOf s).elim ∅ fun k => if live k then {0} else ∅
    else ∅
  unitless _ := False
  amount g _ _ := match g.2 with
    | .reg _ => 1
    | .dma s => (kOf s).elim 1 credit
  payload g _ d := match g.2 with
    | .reg _ => barPay g.1.1 d
    | .dma s => (kOf s).elim iprop(emp) (pay m g.1.1)
  amount_pos g _ _ _ := by
    rcases g with ⟨t, s | s⟩
    · exact Nat.one_pos
    · show 0 < (kOf s).elim 1 credit
      rcases kOf s with _ | k
      · exact Nat.one_pos
      · exact credit_pos k

instance Rd_storable (g : GSem nD τ sig) (r : ℕ) (d : Dev nD) : BI.Storable (upEmb : UEmb _ 𝕄) ((Rd m).payload g r d) := by
  rcases g with ⟨t, s | s⟩
  · show BI.Storable upEmb (barPay t.1 d); infer_instance
  · show BI.Storable upEmb ((kOf s).elim iprop(emp) (pay m t.1))
    rcases kOf s with _ | k
    · show BI.Storable upEmb iprop(emp); infer_instance
    · show BI.Storable upEmb (pay m t.1 k); infer_instance

section Sched
variable (c : Dev nD) (k : CK)

theorem duties_bar : (Rd m).duties (barCell c) 0 = Finset.univ.erase c := by
  dsimp only [Rd]; exact if_pos ⟨rfl, rfl⟩
theorem duties_cell (h : live k) : (Rd m).duties (cell c k) 0 = {0} := by
  dsimp only [Rd]
  refine (if_pos ⟨rfl, rfl⟩).trans ?_
  show (kOf (dmaNo k)).elim ∅ (fun k => if live k then {0} else ∅) = ({0} : Finset (Dev nD))
  rw [kOf_dmaNo]; exact if_pos h
theorem duties_dead (h : ¬ live k) (r : ℕ) : (Rd m).duties (cell c k) r = ∅ := by
  dsimp only [Rd]
  by_cases hr : r = 0
  · refine (if_pos ⟨hr, rfl⟩).trans ?_
    show (kOf (dmaNo k)).elim ∅ (fun k => if live k then {0} else ∅) = (∅ : Finset (Dev nD))
    rw [kOf_dmaNo]; exact if_neg h
  · exact if_neg fun h => hr h.1
theorem duties_later (g : GSem nD τ sig) : ∀ r, 1 ≤ r → (Rd m).duties g r = ∅ :=
  fun r hr => by dsimp only [Rd]; exact if_neg fun h => by omega

theorem amount_bar (d : Dev nD) : (Rd m).amount (barCell c) 0 d = 1 := rfl
theorem amount_cell (d : Dev nD) : (Rd m).amount (cell c k) 0 d = credit k := by
  show (kOf (dmaNo k)).elim 1 credit = credit k; rw [kOf_dmaNo]; rfl
theorem expect_bar : (Rd m).expect (barCell c) 0 = 3 := by
  unfold Schedule.expect Schedule.amountOf
  rw [duties_bar, Finset.sum_congr rfl fun d _ => amount_bar m c d, Finset.sum_const, smul_eq_mul, mul_one]
  revert c; decide
theorem expect_cell (h : live k) : (Rd m).expect (cell c k) 0 = credit k := by
  unfold Schedule.expect Schedule.amountOf; rw [duties_cell m c k h, Finset.sum_singleton, amount_cell]
theorem payload_bar (d : Dev nD) : (Rd m).payload (barCell c) 0 d = barPay c d := rfl
theorem payload_cell (d : Dev nD) : (Rd m).payload (cell c k) 0 d = pay m c k := by
  show (kOf (dmaNo k)).elim iprop(emp) (pay m c) = pay m c k; rw [kOf_dmaNo]; rfl
theorem rest_bar : bigSep ((Rd m).duties (barCell c) 0 \ ∅) (fun u => (Rd m).payload (barCell c) 0 u)
    = iprop(barPay (F := F) c (c + 1) ∗ barPay c (c + 2) ∗ barPay c (c + 3)) := by
  rw [Finset.sdiff_empty, duties_bar]
  have h : (Finset.univ.erase c : Finset (Dev nD)) = {c + 1, c + 2, c + 3} := by revert c; decide
  have h1 : c + 1 ∉ ({c + 2, c + 3} : Finset (Dev nD)) := by revert c; decide
  have h2 : c + 2 ∉ ({c + 3} : Finset (Dev nD)) := by revert c; decide
  rw [h, bigSep_insert h1, bigSep_insert h2, bigSep_singleton]
  rfl
theorem rest_cell (h : live k) : bigSep ((Rd m).duties (cell c k) 0 \ ∅) (fun u => (Rd m).payload (cell c k) 0 u) = pay m c k := by
  rw [Finset.sdiff_empty, duties_cell m c k h, bigSep_singleton, payload_cell]

end Sched

/-! ## What a device owes -/

/-- The pieces still to send at point `t`. -/
def owedC (c : Dev nD) (t : ℕ) : CellTallies nD τ sig Unit :=
  ∑ x : Fin 3 × Fin 8, if t ≤ 8 * x.1.val + x.2.val then tallyAt (cell (peer c x.1.castSucc) (kRecv x)) () NC else 0
/-- The maxima to send. -/
def owedA (c : Dev nD) : CellTallies nD τ sig Unit :=
  tallyAt (cell (c + 1) (kARecv 1)) () NA + (tallyAt (cell (c + 2) (kARecv 2)) () NA + tallyAt (cell (c + 3) (kARecv 3)) () NA)
/-- The barrier's units. -/
def owedB (c : Dev nD) : CellTallies nD τ sig Unit :=
  tallyAt (barCell (c + 1)) () 1 + (tallyAt (barCell (c + 2)) () 1 + tallyAt (barCell (c + 3)) () 1)

def O₀ (c : Dev nD) : CellTallies nD τ sig Unit := owedB c + (owedC c 0 + owedA c)

theorem owedC_step (c : Dev nD) (x : Fin 3 × Fin 8) :
    owedC c (8 * x.1.val + x.2.val) = owedC c (8 * x.1.val + x.2.val + 1) + tallyAt (cell (peer c x.1.castSucc) (kRecv x)) () NC := by
  have e : ∀ f : Fin 3 × Fin 8 → CellTallies nD τ sig Unit, ∑ y, f y = ∑ y ∈ Finset.univ.erase x, f y + f x :=
    fun f => (Finset.sum_erase_add Finset.univ f (Finset.mem_univ x)).symm
  unfold owedC
  rw [e, e, if_pos le_rfl,
    if_neg (by omega), add_zero]
  congr 1
  refine Finset.sum_congr rfl fun y hy => ?_
  have hne : 8 * y.1.val + y.2.val ≠ 8 * x.1.val + x.2.val := fun h => (Finset.ne_of_mem_erase hy) <| by
    have h1 := y.2.isLt; have h2 := x.2.isLt
    exact Prod.ext (Fin.ext (by omega)) (Fin.ext (by omega))
  by_cases h : 8 * x.1.val + x.2.val ≤ 8 * y.1.val + y.2.val
  · rw [if_pos h, if_pos (by omega)]
  · rw [if_neg h, if_neg (by omega)]

theorem owedC_end (c : Dev nD) (t : ℕ) (h : 24 ≤ t) : owedC c t = 0 := by
  unfold owedC
  refine Finset.sum_eq_zero fun x _ => if_neg ?_
  have := x.1.isLt; have := x.2.isLt; omega

def L (g : GSem nD τ sig) : Finset Unit := if g.1.2 = .tc then {()} else ∅
/-- The barrier cells at 1, the cells that take a remote piece or maximum at 2, the rest at 0. -/
def lv (g : GSem nD τ sig) (_ : Unit) : ℕ := match g.2 with
  | .reg _ => 1
  | .dma s => match kOf s with
    | some (.inr (.inl (.inr _))) => 2
    | some (.inr (.inr (.inr _))) => 2
    | _ => 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies at cells of the tensor cores, at level `l` or higher. -/
def Above (l : ℕ) (O : CellTallies nD τ sig Unit) : Prop := ∀ g u, 0 < O g u → u ∈ L g ∧ l ≤ lv g u

theorem Above.add {l : ℕ} {O O' : CellTallies nD τ sig Unit} (h : Above l O) (h' : Above l O') : Above l (O + O') := fun g u hp => by
  rw [Pi.add_apply, Finsupp.add_apply] at hp
  rcases Nat.add_pos_iff_pos_or_pos.mp hp with hp | hp
  · exact h g u hp
  · exact h' g u hp
theorem Above.zero {l : ℕ} : Above l 0 := fun g u hp => absurd hp (Nat.lt_irrefl 0)
theorem Above.tally {l : ℕ} (c : Dev nD) (sm : SemLoc sig) (n : ℕ) (h : l ≤ lv ((c : Thread nD τ), sm) ()) :
    Above l (tallyAt ((c : Thread nD τ), sm) () n) := fun g u hp => by
  rw [tallyAt_apply] at hp
  by_cases hg : g = ((c : Thread nD τ), sm) ∧ u = ()
  · rw [hg.1, L_tc]; exact ⟨Finset.mem_singleton_self _, h⟩
  · rw [if_neg hg] at hp; exact absurd hp (Nat.lt_irrefl 0)
theorem Above.mono {l l' : ℕ} {O : CellTallies nD τ sig Unit} (h : Above l O) (hl : l' ≤ l) : Above l' O := fun g u hp =>
  ⟨(h g u hp).1, hl.trans (h g u hp).2⟩

theorem lv_recv (c : Dev nD) (x : Fin 3 × Fin 8) : lv (cell c (kRecv x)) () = 2 := by
  show (match kOf (dmaNo (kRecv x)) with
    | some (.inr (.inl (.inr _))) => 2
    | some (.inr (.inr (.inr _))) => 2
    | _ => 0) = 2
  rw [kOf_dmaNo]
theorem lv_arecv (c : Dev nD) (d : Fin 4) : lv (cell c (kARecv d)) () = 2 := by
  show (match kOf (dmaNo (kARecv d)) with
    | some (.inr (.inl (.inr _))) => 2
    | some (.inr (.inr (.inr _))) => 2
    | _ => 0) = 2
  rw [kOf_dmaNo]

theorem above_owedC (c : Dev nD) (t : ℕ) : Above 2 (owedC c t) := by
  unfold owedC
  refine Finset.sum_induction _ (Above 2) (fun _ _ => Above.add) Above.zero fun x _ => ?_
  split
  · exact Above.tally _ _ _ (lv_recv _ x).ge
  · exact Above.zero
theorem above_owedA (c : Dev nD) : Above 2 (owedA c) :=
  (Above.tally _ _ _ (lv_arecv _ _).ge).add ((Above.tally _ _ _ (lv_arecv _ _).ge).add (Above.tally _ _ _ (lv_arecv _ _).ge))
theorem above_owedB (c : Dev nD) : Above 1 (owedB c) :=
  (Above.tally _ _ _ le_rfl).add ((Above.tally _ _ _ le_rfl).add (Above.tally _ _ _ le_rfl))
theorem above_O₀ (c : Dev nD) : Above 1 (O₀ c) :=
  (above_owedB c).add (((above_owedC c 0).mono (by decide)).add ((above_owedA c).mono (by decide)))

theorem mayWait_bar (c : Dev nD) :
    (levAts L lv : sProp 𝕄) ⊢ MayWait (c : Thread nD τ) (.reg barrier0) () (owedC c 0 + owedA c) :=
  MayOwe.of_cut (L := L) (lev := lv) 1 (fun p hp => by rw [Finset.mem_singleton.mp hp, L_tc]; exact Finset.mem_singleton_self _)
    (fun g u hg => (((above_owedC c 0).add (above_owedA c)) g u hg).1)
    (fun p hp => by rw [Finset.mem_singleton.mp hp]; rfl)
    (fun g u hg => (((above_owedC c 0).add (above_owedA c)) g u hg).2)

/-! ## The records that every device holds -/

def barCells : Finset (GSem nD τ sig) := Finset.univ.map ⟨barCell, fun a b h => congrArg (fun g : GSem nD τ sig => g.1.1) h⟩
def scCells : Finset (GSem nD τ sig) :=
  (Finset.univ : Finset (Dev nD × CK)).map ⟨fun x => cell x.1 x.2, fun a b h =>
    Prod.ext (congrArg (fun g : GSem nD τ sig => g.1.1) h) (dmaNo_inj (SemLoc.dma.inj (congrArg (fun g : GSem nD τ sig => g.2) h)))⟩

/-- The invariants of all cells, at the names `K`, and that round 0 of every barrier cell is reached. -/
def recs (K : GSem nD τ sig → ℕ) : sProp 𝕄 :=
  iprop((bigSep (barCells ∪ scCells) fun g => cellInv ER (Rd m) (K g) g) ∗ bigSep barCells fun g => reached ER g 0)
instance recs_persistent (K : GSem nD τ sig → ℕ) : BI.Persistent (recs m K) := by unfold recs; infer_instance

variable (K : GSem nD τ sig → ℕ)

theorem recs_bar (c : Dev nD) : recs m K ⊢ cellInv ER (Rd m) (K (barCell c)) (barCell c) := by
  unfold recs
  exact sep_elim_left.trans (bigSep_elim (s := barCells ∪ scCells) (i := barCell c) (Φ := fun g => cellInv ER (Rd m) (K g) g)
    (Finset.mem_union_left _ (Finset.mem_map.mpr ⟨c, Finset.mem_univ _, rfl⟩)))
theorem recs_cell (c : Dev nD) (k : CK) : recs m K ⊢ cellInv ER (Rd m) (K (cell c k)) (cell c k) := by
  unfold recs
  exact sep_elim_left.trans (bigSep_elim (s := barCells ∪ scCells) (i := cell c k) (Φ := fun g => cellInv ER (Rd m) (K g) g)
    (Finset.mem_union_right _ (Finset.mem_map.mpr ⟨(c, k), Finset.mem_univ _, rfl⟩)))
theorem recs_reached (c : Dev nD) : recs m K ⊢ reached ER (barCell c) 0 := by
  unfold recs
  exact sep_elim_right.trans (bigSep_elim (s := barCells) (i := barCell c) (Φ := fun g => (reached ER g 0 : sProp 𝕄)) (Finset.mem_map.mpr ⟨c, Finset.mem_univ _, rfl⟩))
theorem reachedAll_cell (p : Dev nD) (k : CK) : (reachedAll p : sProp 𝕄) ⊢ reached ER (cell p k) 0 := by
  unfold reachedAll
  exact bigSep_elim (Φ := fun k : CK => (reached ER (cell p k) 0 : sProp 𝕄)) (Finset.mem_univ k)

end Cert.KernelIdeal
end
-- ==== Proof.Views.lean ====
/-
  The windows of the buffers that the fused kernel's transfers, loads and stores go through: their elements, and what they hold after
  a store or a landing.
-/
module

public import proofs.«01_k».proof.Proof.Protocol
public import Idealize.ShloMosaic.Lib.Pipeline.Value

@[expose] public section

noncomputable section

namespace Cert.KernelIdeal

open Idealize.ShloMosaic Idealize.ShloMosaic.TcCoe
open Facts₀ Facts

variable {F : FTy → Type} [FloatOps F]

abbrev yM : Memref sig .tc .vmem S4x1024x2048 .bf16 := Memref.whole cc0_scratch0
abbrev xM : Memref sig .tc .hbm S4096x2048 .bf16 := Memref.whole main_v9_0
abbrev sM : Memref sig .tc .smem S1 .f32 := Memref.whole cc0_scratch1
abbrev tM : Memref sig .tc .vmem S8x128 .f32 := Memref.whole cc0_scratch2
abbrev aM : Memref sig .tc .vmem S4x8x128 .f32 := Memref.whole cc0_scratch3

/-- A piece of the product buffer; of the exchanged product; a chunk; the rows of a sender; a slot of the maxima. -/
abbrev yPc (off : Fin 3 → ℕ) (h : ∀ a, off a + S1x1024x256.size a ≤ S4x1024x2048.size a) : Memref sig .tc .vmem S1024x256 .bf16 :=
  (yM.slice (Rect.unit (s := S4x1024x2048) off S1x1024x256.size h) (fun _ => rfl)).squeeze S1024x256 squeezes_S1x1024x256_S1024x256
abbrev xPc (off : Fin 2 → ℕ) (h : ∀ a, off a + S1024x256.size a ≤ S4096x2048.size a) : Memref sig .tc .hbm S1024x256 .bf16 :=
  xM.slice (Rect.unit (s := S4096x2048) off S1024x256.size h) (fun _ => rfl)
abbrev yCh (off : Fin 3 → ℕ) (h : ∀ a, off a + S1x1024x2048.size a ≤ S4x1024x2048.size a) : Memref sig .tc .vmem S1024x2048 .bf16 :=
  (yM.slice (Rect.unit (s := S4x1024x2048) off S1x1024x2048.size h) (fun _ => rfl)).squeeze S1024x2048 squeezes_S1x1024x2048_S1024x2048
abbrev xCh (off : Fin 2 → ℕ) (h : ∀ a, off a + S1024x2048.size a ≤ S4096x2048.size a) : Memref sig .tc .hbm S1024x2048 .bf16 :=
  xM.slice (Rect.unit (s := S4096x2048) off S1024x2048.size h) (fun _ => rfl)
abbrev aSl (off : Fin 3 → ℕ) (h : ∀ a, off a + S1x8x128.size a ≤ S4x8x128.size a) : Memref sig .tc .vmem S8x128 .f32 :=
  (aM.slice (Rect.unit (s := S4x8x128) off S1x8x128.size h) (fun _ => rfl)).squeeze S8x128 squeezes_S1x8x128_S8x128

theorem unsq {a b : ℕ} (h : (⟨2, ![a, b]⟩ : Shape).numel = (⟨3, ![1, a, b]⟩ : Shape).numel) (x : (⟨2, ![a, b]⟩ : Shape).Idx) :
    Shape.reshapeEquiv h x = (ix3 (0 : Fin 1) (show Fin a from x 0) (show Fin b from x 1) : (⟨3, ![1, a, b]⟩ : Shape).Idx) :=
  Shape.reshapeEquiv_eq_of_rowMajor h (by
    rw [Shape.rowMajor_val_three, Shape.rowMajor_val_two]
    show ((0 * a + (x 0).val) * b + (x 1).val) = (x 0).val * b + (x 1).val
    rw [Nat.zero_mul, Nat.zero_add])

section Emb
variable {off : Fin 3 → ℕ} {off' : Fin 2 → ℕ} (j : Fin 4) (q : Fin 8)

theorem yPc_emb (h : ∀ a, off a + S1x1024x256.size a ≤ S4x1024x2048.size a) (e : off = ![j.val, 0, 256 * q.val]) (a : S1024x256.Idx) :
    (yPc off h).view.emb a = (ix3 j (a 0) ⟨256 * q.val + (a 1).val, by
      have h1 : (a 1).val < 256 := (a 1).isLt
      have := q.isLt
      omega⟩ : S4x1024x2048.Idx) := by
  subst e
  show (Rect.unit (s := S4x1024x2048) _ S1x1024x256.size h).emb (Shape.reshapeEquiv _ a) = _
  rw [unsq]
  funext k
  apply Fin.ext
  fin_cases k
  · show j.val + 1 * 0 = j.val; omega
  · show 0 + 1 * (a 0).val = (a 0).val; omega
  · show 256 * q.val + 1 * (a 1).val = _; rw [Nat.one_mul]; rfl

theorem yPc_set (h : ∀ a, off a + S1x1024x256.size a ≤ S4x1024x2048.size a) (e : off = ![j.val, 0, 256 * q.val]) :
    (yPc off h).view.set = ySet j q := by
  ext i
  rw [mem_ySet]
  constructor
  · intro hi
    obtain ⟨a, rfl⟩ := View.exists_emb_of_mem_set _ hi
    rw [yPc_emb j q h e]
    refine ⟨rfl, ?_⟩
    show (256 * q.val + (a 1).val) / 256 = q.val
    have h1 : (a 1).val < 256 := (a 1).isLt
    omega
  · rintro ⟨h0, h2⟩
    have e' : i = (yPc off h).view.emb (ix2 (i 1) ⟨(i 2).val % 256, Nat.mod_lt _ (by decide)⟩) := by
      rw [yPc_emb j q h e]
      funext k
      apply Fin.ext
      fin_cases k
      · exact h0
      · rfl
      · show (i 2).val = 256 * q.val + (i 2).val % 256
        omega
    rw [e']
    exact View.emb_mem_set _ _

theorem xPc_emb (h : ∀ a, off' a + S1024x256.size a ≤ S4096x2048.size a) (e : off' = ![1024 * j.val, 256 * q.val]) (a : S1024x256.Idx) :
    (xPc off' h).view.emb a = (ix2 ⟨1024 * j.val + (a 0).val, by
      have h1 : (a 0).val < 1024 := (a 0).isLt
      have := j.isLt
      omega⟩ ⟨256 * q.val + (a 1).val, by
      have h1 : (a 1).val < 256 := (a 1).isLt
      have := q.isLt
      omega⟩ : S4096x2048.Idx) := by
  subst e
  show (Rect.unit (s := S4096x2048) _ S1024x256.size h).emb a = _
  funext k
  apply Fin.ext
  fin_cases k
  · show 1024 * j.val + 1 * (a 0).val = _; rw [Nat.one_mul]; rfl
  · show 256 * q.val + 1 * (a 1).val = _; rw [Nat.one_mul]; rfl

theorem xPc_set (h : ∀ a, off' a + S1024x256.size a ≤ S4096x2048.size a) (e : off' = ![1024 * j.val, 256 * q.val]) :
    (xPc off' h).view.set = xSet j q := by
  ext i
  rw [mem_xSet]
  constructor
  · intro hi
    obtain ⟨a, rfl⟩ := View.exists_emb_of_mem_set _ hi
    rw [xPc_emb j q h e]
    show (1024 * j.val + (a 0).val) / 1024 = j.val ∧ (256 * q.val + (a 1).val) / 256 = q.val
    have h0 : (a 0).val < 1024 := (a 0).isLt
    have h1 : (a 1).val < 256 := (a 1).isLt
    omega
  · rintro ⟨h0, h2⟩
    have e' : i = (xPc off' h).view.emb (ix2 ⟨(i 0).val % 1024, Nat.mod_lt _ (by decide)⟩ ⟨(i 1).val % 256, Nat.mod_lt _ (by decide)⟩) := by
      rw [xPc_emb j q h e]
      funext k
      apply Fin.ext
      fin_cases k
      · show (i 0).val = 1024 * j.val + (i 0).val % 1024
        omega
      · show (i 1).val = 256 * q.val + (i 1).val % 256
        omega
    rw [e']
    exact View.emb_mem_set _ _

theorem yCh_emb (h : ∀ a, off a + S1x1024x2048.size a ≤ S4x1024x2048.size a) (e : off = ![j.val, 0, 0]) (a : S1024x2048.Idx) :
    (yCh off h).view.emb a = (ix3 j (a 0) (a 1) : S4x1024x2048.Idx) := by
  subst e
  show (Rect.unit (s := S4x1024x2048) _ S1x1024x2048.size h).emb (Shape.reshapeEquiv _ a) = _
  rw [unsq]
  funext k
  apply Fin.ext
  fin_cases k
  · show j.val + 1 * 0 = j.val; omega
  · show 0 + 1 * (a 0).val = (a 0).val; omega
  · show 0 + 1 * (a 1).val = (a 1).val; omega

theorem yCh_set (h : ∀ a, off a + S1x1024x2048.size a ≤ S4x1024x2048.size a) (e : off = ![j.val, 0, 0]) :
    (yCh off h).view.set = ySlab j := by
  ext i
  rw [mem_ySlab]
  constructor
  · intro hi
    obtain ⟨a, rfl⟩ := View.exists_emb_of_mem_set _ hi
    rw [yCh_emb j h e]
    rfl
  · intro h0
    have e' : i = (yCh off h).view.emb (ix2 (i 1) (i 2)) := by
      rw [yCh_emb j h e]
      funext k
      apply Fin.ext
      fin_cases k
      · exact h0
      · rfl
      · rfl
    rw [e']
    exact View.emb_mem_set _ _

theorem xCh_emb (h : ∀ a, off' a + S1024x2048.size a ≤ S4096x2048.size a) (e : off' = ![1024 * j.val, 0]) (a : S1024x2048.Idx) :
    (xCh off' h).view.emb a = (ix2 ⟨1024 * j.val + (a 0).val, by
      have h1 : (a 0).val < 1024 := (a 0).isLt
      have := j.isLt
      omega⟩ (a 1) : S4096x2048.Idx) := by
  subst e
  show (Rect.unit (s := S4096x2048) _ S1024x2048.size h).emb a = _
  funext k
  apply Fin.ext
  fin_cases k
  · show 1024 * j.val + 1 * (a 0).val = _; rw [Nat.one_mul]; rfl
  · show 0 + 1 * (a 1).val = (a 1).val; omega

theorem xCh_set (h : ∀ a, off' a + S1024x2048.size a ≤ S4096x2048.size a) (e : off' = ![1024 * j.val, 0]) :
    (xCh off' h).view.set = xRow j := by
  ext i
  rw [mem_xRow]
  constructor
  · intro hi
    obtain ⟨a, rfl⟩ := View.exists_emb_of_mem_set _ hi
    rw [xCh_emb j h e]
    show (1024 * j.val + (a 0).val) / 1024 = j.val
    have h0 : (a 0).val < 1024 := (a 0).isLt
    omega
  · intro h0
    have e' : i = (xCh off' h).view.emb (ix2 ⟨(i 0).val % 1024, Nat.mod_lt _ (by decide)⟩ (i 1)) := by
      rw [xCh_emb j h e]
      funext k
      apply Fin.ext
      fin_cases k
      · show (i 0).val = 1024 * j.val + (i 0).val % 1024
        omega
      · rfl
    rw [e']
    exact View.emb_mem_set _ _

theorem aSl_emb (h : ∀ a, off a + S1x8x128.size a ≤ S4x8x128.size a) (e : off = ![j.val, 0, 0]) (a : S8x128.Idx) :
    (aSl off h).view.emb a = (ix3 j (a 0) (a 1) : S4x8x128.Idx) := by
  subst e
  show (Rect.unit (s := S4x8x128) _ S1x8x128.size h).emb (Shape.reshapeEquiv _ a) = _
  rw [unsq]
  funext k
  apply Fin.ext
  fin_cases k
  · show j.val + 1 * 0 = j.val; omega
  · show 0 + 1 * (a 0).val = (a 0).val; omega
  · show 0 + 1 * (a 1).val = (a 1).val; omega

theorem aSl_set (h : ∀ a, off a + S1x8x128.size a ≤ S4x8x128.size a) (e : off = ![j.val, 0, 0]) :
    (aSl off h).view.set = aSet j := by
  ext i
  rw [mem_aSet]
  constructor
  · intro hi
    obtain ⟨a, rfl⟩ := View.exists_emb_of_mem_set _ hi
    rw [aSl_emb j h e]
    rfl
  · intro h0
    have e' : i = (aSl off h).view.emb (ix2 (i 1) (i 2)) := by
      rw [aSl_emb j h e]
      funext k
      apply Fin.ext
      fin_cases k
      · exact h0
      · rfl
      · rfl
    rw [e']
    exact View.emb_mem_set _ _

/-- The window that a piece is stored through. -/
abbrev yAcc (off : Fin 3 → ℕ) (h : ∀ a, off a + S1x1024x256.size a ≤ S4x1024x2048.size a) : View sig .tc .vmem S1x1024x256 .bf16 :=
  yM.access (Rect.unit (s := S4x1024x2048) off S1x1024x256.size h)

theorem yAcc_emb (h : ∀ a, off a + S1x1024x256.size a ≤ S4x1024x2048.size a) (e : off = ![j.val, 0, 256 * q.val]) (a : S1x1024x256.Idx) :
    (yAcc off h).emb a = (ix3 j (a 1) ⟨256 * q.val + (a 2).val, by
      have h1 : (a 2).val < 256 := (a 2).isLt
      have := q.isLt
      omega⟩ : S4x1024x2048.Idx) := by
  subst e
  show (Rect.unit (s := S4x1024x2048) _ S1x1024x256.size h).emb a = _
  funext k
  apply Fin.ext
  have h0 : (a 0).val < 1 := (a 0).isLt
  fin_cases k
  · show j.val + 1 * (a 0).val = j.val; omega
  · show 0 + 1 * (a 1).val = (a 1).val; omega
  · show 256 * q.val + 1 * (a 2).val = _; rw [Nat.one_mul]; rfl

theorem yAcc_set (h : ∀ a, off a + S1x1024x256.size a ≤ S4x1024x2048.size a) (e : off = ![j.val, 0, 256 * q.val]) :
    (yAcc off h).set = ySet j q := by
  rw [← yPc_set j q h e]
  exact (View.set_reshape _ _).symm

end Emb

variable (m : (ℓ : Loc nD τ sig) → Buf (Elt F) ℓ)

section Land
variable {off : Fin 3 → ℕ} {off' : Fin 2 → ℕ} (c : Dev nD) (q : Fin 8)

/-- The piece of chunk `j` stored, the piece is at its contents. -/
theorem stored (j : Fin 4) (h : ∀ a, off a + S1x1024x256.size a ≤ S4x1024x2048.size a) (e : off = ![j.val, 0, 256 * q.val])
    (f : (⟨S4x1024x2048, .bf16⟩ : BufTy).Contents (Elt F)) (i : S4x1024x2048.Idx) (hi : i ∈ ySet j q) :
    (yAcc off h).write (Elt F) f (chunk m c j q) Finset.univ i = Yb m c i := by
  rw [← yAcc_set j q h e] at hi
  obtain ⟨a, rfl⟩ := View.exists_emb_of_mem_set _ hi
  refine (View.write_emb_of_mem (Val := Elt F) (v := (yAcc off h)) f (chunk m c j q) (Finset.mem_univ a)).trans ?_
  show chunk m c j q a = Yb m c ((yAcc off h).emb a)
  rw [yAcc_emb j q h e]
  have h2 : (a 2).val < 256 := (a 2).isLt
  have h0 : (a 0).val < 1 := (a 0).isLt
  have eq1 : (⟨(256 * q.val + (a 2).val) / 256, by have := q.isLt; omega⟩ : Fin 8) = q := Fin.ext (by show (256 * q.val + (a 2).val) / 256 = q.val; omega)
  have eq2 : (ix3 0 (a 1) ⟨(256 * q.val + (a 2).val) % 256, Nat.mod_lt _ (by decide)⟩ : S1x1024x256.Idx) = a := by
    funext k
    apply Fin.ext
    fin_cases k
    · show 0 = (a 0).val; omega
    · rfl
    · show (256 * q.val + (a 2).val) % 256 = (a 2).val; omega
  show chunk m c j q a = chunk m c j ⟨(256 * q.val + (a 2).val) / 256, _⟩ (ix3 0 (a 1) ⟨(256 * q.val + (a 2).val) % 256, _⟩)
  rw [eq1, eq2]

theorem Yx_at (j : Fin 4) (r : Fin 1024) (k : Fin 2048) (hr : 1024 * c.val + r.val < 4096) :
    Yx m (peer c j) (ix2 ⟨1024 * c.val + r.val, hr⟩ k) = Yb m c (ix3 j r k) := by
  have e1 : (⟨(1024 * c.val + r.val) / 1024, by show _ < 4; omega⟩ : Dev nD) = c := Fin.ext (by show (1024 * c.val + r.val) / 1024 = c.val; omega)
  have e2 : (⟨(1024 * c.val + r.val) % 1024, Nat.mod_lt _ (by decide)⟩ : Fin 1024) = r := Fin.ext (by show (1024 * c.val + r.val) % 1024 = r.val; omega)
  show Yb m ⟨(1024 * c.val + r.val) / 1024, _⟩ (ix3 (via ⟨(1024 * c.val + r.val) / 1024, _⟩ (peer c j)) ⟨(1024 * c.val + r.val) % 1024, _⟩ k) = _
  rw [e1, e2, via_peer]

/-- The piece landed at the device the chunk is for. -/
theorem landed (j : Fin 4) (h : ∀ a, off a + S1x1024x256.size a ≤ S4x1024x2048.size a) (e : off = ![j.val, 0, 256 * q.val])
    (h' : ∀ a, off' a + S1024x256.size a ≤ S4096x2048.size a) (e' : off' = ![1024 * c.val, 256 * q.val])
    (f : (⟨S4096x2048, .bf16⟩ : BufTy).Contents (Elt F)) (i : S4096x2048.Idx) (hi : i ∈ xSet c q) :
    (xPc off' h').view.write (Elt F) f ((yPc off h).view.read (Elt F) (Yb m c)) Finset.univ i = Yx m (peer c j) i := by
  rw [← xPc_set c q h' e'] at hi
  obtain ⟨a, rfl⟩ := View.exists_emb_of_mem_set _ hi
  refine (View.write_emb_of_mem (Val := Elt F) (v := (xPc off' h').view) f _ (Finset.mem_univ a)).trans ?_
  show Yb m c ((yPc off h).view.emb a) = Yx m (peer c j) ((xPc off' h').view.emb a)
  rw [yPc_emb j q h e, xPc_emb c q h' e']
  exact (Yx_at m c j (a 0) _ _).symm

/-- The device's own chunk landed in its own rows. -/
theorem landed_own (h : ∀ a, off a + S1x1024x2048.size a ≤ S4x1024x2048.size a) (e : off = ![(3 : Fin 4).val, 0, 0])
    (h' : ∀ a, off' a + S1024x2048.size a ≤ S4096x2048.size a) (e' : off' = ![1024 * c.val, 0])
    (f : (⟨S4096x2048, .bf16⟩ : BufTy).Contents (Elt F)) (i : S4096x2048.Idx) (hi : i ∈ xRow c) :
    (xCh off' h').view.write (Elt F) f ((yCh off h).view.read (Elt F) (Yb m c)) Finset.univ i = Yx m c i := by
  rw [← xCh_set c h' e'] at hi
  obtain ⟨a, rfl⟩ := View.exists_emb_of_mem_set _ hi
  refine (View.write_emb_of_mem (Val := Elt F) (v := (xCh off' h').view) f _ (Finset.mem_univ a)).trans ?_
  show Yb m c ((yCh off h).view.emb a) = Yx m c ((xCh off' h').view.emb a)
  rw [yCh_emb 3 h e, xCh_emb c h' e']
  have := Yx_at m c 3 (a 0) (a 1) (by have h1 : (a 0).val < 1024 := (a 0).isLt; have h2 : c.val < 4 := c.isLt; omega)
  rw [peer_three] at this
  exact this.symm

/-- A maximum landed in slot `d` of the device `d` after. -/
theorem landed_max (d : Fin 4) (h : ∀ a, off a + S1x8x128.size a ≤ S4x8x128.size a) (e : off = ![d.val, 0, 0])
    (f : (⟨S4x8x128, .f32⟩ : BufTy).Contents (Elt F)) (i : S4x8x128.Idx) (hi : i ∈ aSet d) :
    (aSl off h).view.write (Elt F) f (tM.view.read (Elt F) (Tile m c)) Finset.univ i = AA m (c + (show Dev nD from d)) i := by
  rw [← aSl_set d h e] at hi
  obtain ⟨a, rfl⟩ := View.exists_emb_of_mem_set _ hi
  refine (View.write_emb_of_mem (Val := Elt F) (v := (aSl off h).view) f _ (Finset.mem_univ a)).trans ?_
  rw [aSl_emb d h e]
  show Tile m c a = Tile m (c + d - d) (ix2 (a 0) (a 1))
  rw [(by decide : ∀ c d : Dev nD, c + d - d = c) c d]
  exact congrArg (Tile m c) (ix2_eta (a := 8) (b := 128) a).symm

end Land

end Cert.KernelIdeal
end
-- ==== Proof.Waits.lean ====
/-
  The waits at the fused kernel's last point: the cells in the order in which they are waited on, and one step of a wait.
-/
module

public import proofs.«01_k».proof.Proof.Views

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

abbrev 𝒱₀ : Variants := Variants.none

/-- The weakest precondition of a piece of the kernel's body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bnd {c : Dev nD} {α β : Type} {P : sProp 𝕄} {p : Prog (TpuEff nD τ sig (Elt F) Λ₀ .tc) α}
    {k : α → Prog (TpuEff nD τ sig (Elt F) Λ₀ .tc) β} {Q : β → sProp 𝕄} (h : P ⊢ WP c p fun a => WP c (k a) Q) : P ⊢ WP c (p >>= k) Q := by
  unfold WP; rw [wp_bind]; exact h

theorem ret' {c : Dev nD} {α : Type} {P : sProp 𝕄} {a : α} {Q : α → sProp 𝕄} (h : P ⊢ Q a) :
    P ⊢ WP c (pure a : Prog (TpuEff nD τ sig (Elt F) Λ₀ .tc) α) Q := by
  unfold WP; rw [wp_pure]
  iintro H; imodintro; iapply h; iexact H

/-- A cell's place in the order. -/
def rank : CK → ℕ
  | .inl () => 0
  | .inr (.inl (.inl x)) => 1 + (8 * x.1.val + x.2.val)
  | .inr (.inl (.inr x)) => 25 + (8 * x.1.val + x.2.val)
  | .inr (.inr (.inl d)) => 49 + 2 * ((d.val + 3) % 4)
  | .inr (.inr (.inr d)) => 50 + 2 * ((d.val + 3) % 4)

theorem rank_inj : Function.Injective rank := by
  rintro (_ | (x | x) | (d | d)) (_ | (y | y) | (e | e)) h <;> simp only [rank] at h <;>
    first
    | rfl
    | (exfalso; have := x.1.isLt; have := x.2.isLt; have := y.1.isLt; have := y.2.isLt; omega)
    | (exfalso; have := x.1.isLt; have := x.2.isLt; omega)
    | (exfalso; have := y.1.isLt; have := y.2.isLt; omega)
    | (exfalso; omega)
    | (have h1 := x.2.isLt; have h2 := y.2.isLt
       have : x = y := Prod.ext (Fin.ext (by omega)) (Fin.ext (by omega))
       rw [this])
    | (have : d = e := Fin.ext (by omega)
       rw [this])

theorem live_of_rank (k : CK) (h : rank k < 55) : live k := by
  constructor <;> rintro rfl <;> exact absurd h (by decide)

variable (m : (ℓ : Loc nD τ sig) → Buf (Elt F) ℓ)

/-- The table, whole. -/
abbrev tblPt (c : Dev nD) : sProp 𝕄 := ((c : Thread nD τ).loc main_v8) ↦{fullShare} (show Buf (Elt F) ((c : Thread nD τ).loc main_v8) from tbl c)

/-- Of every cell, before its wait: the position and the credit; after it: the position and what was moved. -/
def waitsAt (c : Dev nD) (n : ℕ) (k : CK) : sProp 𝕄 :=
  if rank k < n then iprop(atPos ER (cell c k) 1 ∅ 0 ∗ pay m c k)
  else iprop(atPos ER (cell c k) 0 ∅ 0 ∗ if live k then cred (tallyAt (cell c k) () (credit k)) else emp)
def Waits (c : Dev nD) (n : ℕ) : sProp 𝕄 := bigSep Finset.univ (waitsAt m c n)

/-- Between the waits. -/
def St (K : GSem nD τ sig → ℕ) (c : Dev nD) (n : ℕ) : sProp 𝕄 :=
  iprop(recs m K ∗ Waits m c n ∗ tblPt c ∗ ∃ W, owes (c : Thread nD τ) 0 W)

variable {m}
variable {K : GSem nD τ sig → ℕ} {c : Dev nD}

theorem wait_step {R : sProp 𝕄} {n : ℕ} {sp sp' : Space} {s s' : Shape} {e e' : EltTy} {sem : DmaSem sig}
    {src : Memref sig .tc sp' s' e'} {dst : Memref sig .tc sp s e} {hsrc : src.view.WordExact} {hdst : dst.view.WordExact}
    {Q : PUnit → sProp 𝕄} (k : CK) (hn : n < 55) (hs : SemLoc.dma sem = osem0 k) (hr : rank k = n) (hc : dst.view.dmaCredit = credit k)
    (h : iprop(St m K c (n + 1) ∗ R) ⊢ Q ⟨⟩) :
    iprop(St m K c n ∗ R) ⊢ WP c (Prog.lift (.waitDma2 sem src dst hsrc hdst)) Q := by
  have hl : live k := live_of_rank k (hr ▸ hn)
  have e0 : waitsAt m c n k = iprop(atPos ER (cell c k) 0 ∅ 0 ∗ cred (tallyAt (cell c k) () (credit k))) := by
    unfold waitsAt; rw [if_neg (by omega), if_pos hl]
  have e1 : waitsAt m c (n + 1) k = iprop(atPos ER (cell c k) 1 ∅ 0 ∗ pay m c k) := by
    unfold waitsAt; rw [if_pos (by omega)]
  have hupd : Waits m c n ⊢ iprop(waitsAt m c n k ∗ (waitsAt m c (n + 1) k -∗ Waits m c (n + 1))) := by
    unfold Waits
    refine bigSep_univ_update k fun k' hk' => ?_
    have : rank k' ≠ n := fun h => hk' (rank_inj (h.trans hr.symm))
    unfold waitsAt
    by_cases h1 : rank k' < n
    · rw [if_pos h1, if_pos (by omega)]
    · rw [if_neg h1, if_neg (by omega)]
  rw [e0, e1] at hupd
  show iprop(St m K c n ∗ R) ⊢ WP c (.op (.waitDma2 sem src dst hsrc hdst) fun x => .ret x) Q
  have hS : ((c : Thread nD τ), SemLoc.dma sem) = cell c k := by rw [hs]
  unfold St WP
  iintro ⟨⟨#Hr, Hw, Ht, ⟨%W, HO⟩⟩, HR⟩
  ihave Hw' := hupd $$ Hw
  icases Hw' with ⟨⟨Hat, Hcr⟩, Hback⟩
  iapply (Rounds.wp_wait_rest_token 𝒱₀ ER (Rd m) (c : Thread nD τ) none (κ := K (cell c k)) (sm := SemLoc.dma sem)
      (wpE_waitDma2_eq 𝒱₀ (c : Thread nD τ) none Set.univ) (Set.mem_univ _) () (O := 0) (W := W) (R := 0) (m := 0) (T := ∅)
      (by rw [hs, expect_cell m c k hl, hc, Nat.zero_add])) $$ [Hcr HO Hat]
  · rw [hs, hc]
    isplitr; · iapply (recs_cell m K c k); iexact Hr
    isplitl [Hcr]; · iexact Hcr
    isplitl [HO]; · iexact HO
    isplitr; · rw [MayWait_zero]; iempintro
    iexact Hat
  iintro ⟨HO, Hat, -, Hpay⟩
  rw [wp_ret]
  imodintro
  iapply h
  rw [hs]
  ihave Hp := (Entails.of_eq (rest_cell m c k hl)) $$ Hpay
  unfold St
  isplitr [HR]
  · isplitr; · iexact Hr
    isplitl [Hback Hat Hp]
    · iapply Hback
      isplitl [Hat]; · iexact Hat
      iexact Hp
    isplitl [Ht]; · iexact Ht
    iexists _; iexact HO
  iexact HR

theorem tbl_step {R : sProp 𝕄} {n : ℕ} {r : Rect S4} {h1 : r.shape.numel = 1} {hp : EltTy.i32.packing = 1}
    {Q : Elt F .i32 → sProp 𝕄} (h : ∀ v, iprop(St m K c n ∗ R) ⊢ Q v) :
    iprop(St m K c n ∗ R) ⊢ WP c (smemLoad (Memref.whole main_v8) r h1 hp) Q := by
  unfold St smemLoad WP
  iintro ⟨⟨Hr, Hw, Ht, HO⟩, HR⟩
  iapply (wp_smemLoadElt 𝒱₀ (c : Thread nD τ) none Set.univ (m := Memref.whole main_v8) (S := Finset.univ) (q := fullShare)
    (f := tbl c) (Finset.subset_univ _)) $$ [Ht]
  · iexact Ht
  iintro Ht
  rw [wp_ret]
  imodintro
  iapply (h _)
  unfold St
  isplitr [HR]
  · isplitl [Hr]; · iexact Hr
    isplitl [Hw]; · iexact Hw
    isplitl [Ht]; · iexact Ht
    iexact HO
  iexact HR

end Cert.KernelIdeal
end
-- ==== Proof.PartsW.lean ====
/-
  The kernel's last point waits for every transfer, one after the other.
-/
module

public import proofs.«01_k».proof.Proof.Waits

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig Unit (Elt F) ℕ UU ℕ

/-- The cell at a place in the order. -/
def kAt (n : ℕ) : CK :=
  if n = 0 then kCopy
  else if n < 25 then kSend (Fin.ofNat 3 ((n - 1) / 8), Fin.ofNat 8 ((n - 1) % 8))
  else if n < 49 then kRecv (Fin.ofNat 3 ((n - 25) / 8), Fin.ofNat 8 ((n - 25) % 8))
  else if n % 2 = 1 then kASend (Fin.ofNat 4 ((n - 49) / 2 + 1))
  else kARecv (Fin.ofNat 4 ((n - 49) / 2 + 1))

theorem wait_at {m : (ℓ : Loc nD τ sig) → Buf (Elt F) ℓ} {K : GSem nD τ sig → ℕ} {c : Dev nD}
    {R : sProp 𝕄} {n : ℕ} {sp sp' : Space} {s s' : Shape} {e e' : EltTy} {sem : DmaSem sig}
    {src : Memref sig .tc sp' s' e'} {dst : Memref sig .tc sp s e} {hsrc : src.view.WordExact} {hdst : dst.view.WordExact}
    {Q : PUnit → sProp 𝕄} (hn : n < 55) (hs : SemLoc.dma sem = osem0 (kAt n)) (hr : rank (kAt n) = n)
    (hc : dst.view.dmaCredit = credit (kAt n)) (h : iprop(St m K c (n + 1) ∗ R) ⊢ Q ⟨⟩) :
    iprop(St m K c n ∗ R) ⊢ WP c (Prog.lift (.waitDma2 sem src dst hsrc hdst)) Q := wait_step (kAt n) hn hs hr hc h

variable {m : (ℓ : Loc nD τ sig) → Buf (Elt F) ℓ} {K : GSem nD τ sig → ℕ} {c : Dev nD}
  {i : grid0.Coords} {h2 : (Memref.whole main_v8).IsWhole} {a3 : Memref sig .tc .vmem S1024x4096 .bf16} {h3 : a3.IsWhole}
  {a4 : Memref sig .tc .vmem S4096x256 .bf16} {h4 : a4.IsWhole} {h5 : xM.IsWhole} {a6 : Memref sig .tc .vmem S8x128 .f32} {h6 : a6.IsWhole}
  {h7 : yM.IsWhole} {h8 : sM.IsWhole} {h9 : tM.IsWhole} {h10 : aM.IsWhole} {d : Dev nD} {v2 w w' : BitVec 32} {v : Elt F .i32}
  {k0_h3 : k0_cond3 i = 1#1}

theorem waits_part3 {R : sProp 𝕄} {Q : PUnit → sProp 𝕄} (h : iprop(St m K c 6 ∗ R) ⊢ Q ⟨⟩) :
    iprop(St m K c 3 ∗ R) ⊢ WP c (k0_part3 i (Memref.whole main_v8) h2 a3 h3 a4 h4 xM h5 a6 h6 yM h7 sM h8 tM h9 aM h10
      cc0_scratch4 cc0_scratch5 cc0_scratch6 cc0_scratch7 cc0_scratch8 d v2 k0_h3 w) Q := by
  rw [Gen.k0_part3_eq_skeleton]
  unfold Gen.k0_part3_skel
  dsimp only
  refine bnd ?_; refine tbl_step fun _ => ?_
  iterate 3 (refine bnd ?_; refine wait_at (by decide) rfl rfl rfl ?_; refine bnd ?_; refine tbl_step fun _ => ?_)
  exact ret' h

theorem waits_part4 {R : sProp 𝕄} {Q : PUnit → sProp 𝕄} (h : iprop(St m K c 10 ∗ R) ⊢ Q ⟨⟩) :
    iprop(St m K c 6 ∗ R) ⊢ WP c (k0_part4 i (Memref.whole main_v8) h2 a3 h3 a4 h4 xM h5 a6 h6 yM h7 sM h8 tM h9 aM h10
      cc0_scratch4 cc0_scratch5 cc0_scratch6 cc0_scratch7 cc0_scratch8 d v2 k0_h3) Q := by
  rw [Gen.k0_part4_eq_skeleton]
  unfold Gen.k0_part4_skel
  dsimp only
  iterate 3 (refine bnd ?_; refine wait_at (by decide) rfl rfl rfl ?_; refine bnd ?_; refine tbl_step fun _ => ?_)
  refine bnd ?_; refine wait_at (by decide) rfl rfl rfl ?_
  exact ret' h

theorem waits_part5 {R : sProp 𝕄} {Q : PUnit → sProp 𝕄} (h : iprop(St m K c 13 ∗ R) ⊢ Q ⟨⟩) :
    iprop(St m K c 10 ∗ R) ⊢ WP c (k0_part5 i (Memref.whole main_v8) h2 a3 h3 a4 h4 xM h5 a6 h6 yM h7 sM h8 tM h9 aM h10
      cc0_scratch4 cc0_scratch5 cc0_scratch6 cc0_scratch7 cc0_scratch8 d v2 k0_h3) Q := by
  rw [Gen.k0_part5_eq_skeleton]
  unfold Gen.k0_part5_skel
  dsimp only
  refine bnd ?_; refine tbl_step fun _ => ?_
  iterate 3 (refine bnd ?_; refine wait_at (by decide) rfl rfl rfl ?_; refine bnd ?_; refine tbl_step fun _ => ?_)
  exact ret' h

theorem waits_part6 {R : sProp 𝕄} {Q : PUnit → sProp 𝕄} (h : iprop(St m K c 17 ∗ R) ⊢ Q ⟨⟩) :
    iprop(St m K c 13 ∗ R) ⊢ WP c (k0_part6 i (Memref.whole main_v8) h2 a3 h3 a4 h4 xM h5 a6 h6 yM h7 sM h8 tM h9 aM h10
      cc0_scratch4 cc0_scratch5 cc0_scratch6 cc0_scratch7 cc0_scratch8 d v2 k0_h3) Q := by
  rw [Gen.k0_part6_eq_skeleton]
  unfold Gen.k0_part6_skel
  dsimp only
  iterate 3 (refine bnd ?_; refine wait_at (by decide) rfl rfl rfl ?_; refine bnd ?_; refine tbl_step fun _ => ?_)
  refine bnd ?_; refine wait_at (by decide) rfl rfl rfl ?_
  exact ret' h

theorem waits_part7 {R : sProp 𝕄} {Q : PUnit → sProp 𝕄} (h : iprop(St m K c 20 ∗ R) ⊢ Q ⟨⟩) :
    iprop(St m K c 17 ∗ R) ⊢ WP c (k0_part7 i (Memref.whole main_v8) h2 a3 h3 a4 h4 xM h5 a6 h6 yM h7 sM h8 tM h9 aM h10
      cc0_scratch4 cc0_scratch5 cc0_scratch6 cc0_scratch7 cc0_scratch8 d v2 k0_h3) Q := by
  rw [Gen.k0_part7_eq_skeleton]
  unfold Gen.k0_part7_skel
  dsimp only
  refine bnd ?_; refine tbl_step fun _ => ?_
  iterate 3 (refine bnd ?_; refine wait_at (by decide) rfl rfl rfl ?_; refine bnd ?_; refine tbl_step fun _ => ?_)
  exact ret' h

theorem waits_part8 {R : sProp 𝕄} {Q : PUnit → sProp 𝕄} (h : iprop(St m K c 24 ∗ R) ⊢ Q ⟨⟩) :
    iprop(St m K c 20 ∗ R) ⊢ WP c (k0_part8 i (Memref.whole main_v8) h2 a3 h3 a4 h4 xM h5 a6 h6 yM h7 sM h8 tM h9 aM h10
      cc0_scratch4 cc0_scratch5 cc0_scratch6 cc0_scratch7 cc0_scratch8 d v2 k0_h3) Q := by
  rw [Gen.k0_part8_eq_skeleton]
  unfold Gen.k0_part8_skel
  dsimp only
  iterate 4 (refine bnd ?_; refine wait_at (by decide) rfl rfl rfl ?_; refine bnd ?_; refine tbl_step fun _ => ?_)
  exact ret' h

theorem waits_part9 {R : sProp 𝕄} {Q : Elt F .i32 → sProp 𝕄} (h : ∀ v, iprop(St m K c 27 ∗ R) ⊢ Q v) :
    iprop(St m K c 24 ∗ R) ⊢ WP c (k0_part9 i (Memref.whole main_v8) h2 a3 h3 a4 h4 xM h5 a6 h6 yM h7 sM h8 tM h9 aM h10
      cc0_scratch4 cc0_scratch5 cc0_scratch6 cc0_scratch7 cc0_scratch8 d v2 k0_h3) Q := by
  rw [Gen.k0_part9_eq_skeleton]
  unfold Gen.k0_part9_skel
  dsimp only
  iterate 3 (refine bnd ?_; refine wait_at (by decide) rfl rfl rfl ?_; refine bnd ?_; refine tbl_step fun _ => ?_)
  exact ret' (h _)

theorem waits_part10 {R : sProp 𝕄} {Q : Elt F .i32 → sProp 𝕄} (h : ∀ v, iprop(St m K c 30 ∗ R) ⊢ Q v) :
    iprop(St m K c 27 ∗ R) ⊢ WP c (k0_part10 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part10_eq_skeleton]
  unfold Gen.k0_part10_skel
  dsimp only
  iterate 3 (refine bnd ?_; refine wait_at (by decide) rfl rfl rfl ?_; refine bnd ?_; refine tbl_step fun _ => ?_)
  exact ret' (h _)

theorem waits_part11 {R : sProp 𝕄} {Q : Elt F .i32 → sProp 𝕄} (h : ∀ v, iprop(St m K c 33 ∗ R) ⊢ Q v) :
    iprop(St m K c 30 ∗ R) ⊢ WP c (k0_part11 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part11_eq_skeleton]
  unfold Gen.k0_part11_skel
  dsimp only
  iterate 3 (refine bnd ?_; refine wait_at (by decide) rfl rfl rfl ?_; refine bnd ?_; refine tbl_step fun _ => ?_)
  exact ret' (h _)

theorem waits_part12 {R : sProp 𝕄} {Q : Elt F .i32 → sProp 𝕄} (h : ∀ v, iprop(St m K c 36 ∗ R) ⊢ Q v) :
    iprop(St m K c 33 ∗ R) ⊢ WP c (k0_part12 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part12_eq_skeleton]
  unfold Gen.k0_part12_skel
  dsimp only
  iterate 3 (refine bnd ?_; refine wait_at (by decide) rfl rfl rfl ?_; refine bnd ?_; refine tbl_step fun _ => ?_)
  exact ret' (h _)

theorem waits_part13 {R : sProp 𝕄} {Q : Elt F .i32 → sProp 𝕄} (h : ∀ v, iprop(St m K c 39 ∗ R) ⊢ Q v) :
    iprop(St m K c 36 ∗ R) ⊢ WP c (k0_part13 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part13_eq_skeleton]
  unfold Gen.k0_part13_skel
  dsimp only
  iterate 3 (refine bnd ?_; refine wait_at (by decide) rfl rfl rfl ?_; refine bnd ?_; refine tbl_step fun _ => ?_)
  exact ret' (h _)

theorem waits_part14 {R : sProp 𝕄} {Q : Elt F .i32 → sProp 𝕄} (h : ∀ v, iprop(St m K c 42 ∗ R) ⊢ Q v) :
    iprop(St m K c 39 ∗ R) ⊢ WP c (k0_part14 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part14_eq_skeleton]
  unfold Gen.k0_part14_skel
  dsimp only
  iterate 3 (refine bnd ?_; refine wait_at (by decide) rfl rfl rfl ?_; refine bnd ?_; refine tbl_step fun _ => ?_)
  exact ret' (h _)

theorem waits_part15 {R : sProp 𝕄} {Q : Elt F .i32 → sProp 𝕄} (h : ∀ v, iprop(St m K c 45 ∗ R) ⊢ Q v) :
    iprop(St m K c 42 ∗ R) ⊢ WP c (k0_part15 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part15_eq_skeleton]
  unfold Gen.k0_part15_skel
  dsimp only
  iterate 3 (refine bnd ?_; refine wait_at (by decide) rfl rfl rfl ?_; refine bnd ?_; refine tbl_step fun _ => ?_)
  exact ret' (h _)

theorem waits_part16 {R : sProp 𝕄} {Q : Elt F .i32 → sProp 𝕄} (h : ∀ v, iprop(St m K c 48 ∗ R) ⊢ Q v) :
    iprop(St m K c 45 ∗ R) ⊢ WP c (k0_part16 i (Memref.whole main_v8) h2 a3 h3 a4 h4 xM h5 a6 h6 yM h7 sM h8 tM h9 aM h10
      cc0_scratch4 cc0_scratch5 cc0_scratch6 cc0_scratch7 cc0_scratch8 d v2 k0_h3 v) Q := by
  rw [Gen.k0_part16_eq_skeleton]
  unfold Gen.k0_part16_skel
  dsimp only
  iterate 3 (refine bnd ?_; refine wait_at (by decide) rfl rfl rfl ?_; refine bnd ?_; refine tbl_step fun _ => ?_)
  exact ret' (h _)

theorem waits_part17 {R : sProp 𝕄} {Q : PUnit → sProp 𝕄} (h : iprop(St m K c 52 ∗ R) ⊢ Q ⟨⟩) :
    iprop(St m K c 48 ∗ R) ⊢ WP c (k0_part17 i (Memref.whole main_v8) h2 a3 h3 a4 h4 xM h5 a6 h6 yM h7 sM h8 tM h9 aM h10
      cc0_scratch4 cc0_scratch5 cc0_scratch6 cc0_scratch7 cc0_scratch8 d k0_h3 w w' v) Q := by
  rw [Gen.k0_part17_eq_skeleton]
  unfold Gen.k0_part17_skel
  dsimp only
  iterate 4 (refine bnd ?_; refine wait_at (by decide) rfl rfl rfl ?_)
  exact ret' h

end Cert.KernelIdeal
end
-- ==== Proof.Steps.lean ====
/-
  The fused kernel's steps: loads and stores of its buffers, the sends of pieces and of maxima, and the device's own copy.
-/
module

public import proofs.«01_k».proof.Proof.Waits

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

theorem bind_wp {c : Dev nD} {α β : Type} {p : Prog (TpuEff nD τ sig (Elt F) Λ₀ .tc) α}
    {k : α → Prog (TpuEff nD τ sig (Elt F) Λ₀ .tc) β} {Q : β → sProp 𝕄} : WP c p (fun a => WP c (k a) Q) ⊢ WP c (p >>= k) Q := bnd .rfl

theorem pure_wp {c : Dev nD} {α : Type} {a : α} {Q : α → sProp 𝕄} :
    Q a ⊢ WP c (pure a : Prog (TpuEff nD τ sig (Elt F) Λ₀ .tc) α) Q := ret' .rfl

theorem lift_wp {c : Dev nD} {X : Type} {e : TpuEff nD τ sig (Elt F) Λ₀ .tc X} {Q : X → sProp 𝕄} :
    WP c (Prog.lift e) Q = wp frame (wpE (defs₀ (F := F)) 𝒱₀ (c : Thread nD τ) none) Set.univ (.op e fun x => .ret x) Q := rfl

section Pts
variable {off : Fin 3 → ℕ} {off' : Fin 2 → ℕ} (c : Dev nD) (j : Fin 4) (q : Fin 8) (p : PosShare TreeShare)

theorem yPc_pt (h : ∀ a, off a + S1x1024x256.size a ≤ S4x1024x2048.size a) (e : off = ![j.val, 0, 256 * q.val])
    (f : Buf (Elt F) ((c : Thread nD τ).loc cc0_scratch0)) :
    (((yPc off h).view.loc (c : Thread nD τ) ↦[(yPc off h).view.set]{p} f) : sProp 𝕄) = ((c : Thread nD τ).loc cc0_scratch0 ↦[ySet j q]{p} f) :=
  congrArg (fun S : Finset S4x1024x2048.Idx => (((c : Thread nD τ).loc cc0_scratch0 ↦[S]{p} f) : sProp 𝕄)) (yPc_set j q h e)
theorem xPc_pt (h : ∀ a, off' a + S1024x256.size a ≤ S4096x2048.size a) (e : off' = ![1024 * j.val, 256 * q.val])
    (f : Buf (Elt F) ((c : Thread nD τ).loc main_v9_0)) :
    (((xPc off' h).view.loc (c : Thread nD τ) ↦[(xPc off' h).view.set]{p} f) : sProp 𝕄) = ((c : Thread nD τ).loc main_v9_0 ↦[xSet j q]{p} f) :=
  congrArg (fun S : Finset S4096x2048.Idx => (((c : Thread nD τ).loc main_v9_0 ↦[S]{p} f) : sProp 𝕄)) (xPc_set j q h e)
theorem yCh_pt (h : ∀ a, off a + S1x1024x2048.size a ≤ S4x1024x2048.size a) (e : off = ![j.val, 0, 0])
    (f : Buf (Elt F) ((c : Thread nD τ).loc cc0_scratch0)) :
    (((yCh off h).view.loc (c : Thread nD τ) ↦[(yCh off h).view.set]{p} f) : sProp 𝕄) = ((c : Thread nD τ).loc cc0_scratch0 ↦[ySlab j]{p} f) :=
  congrArg (fun S : Finset S4x1024x2048.Idx => (((c : Thread nD τ).loc cc0_scratch0 ↦[S]{p} f) : sProp 𝕄)) (yCh_set j h e)
theorem xCh_pt (h : ∀ a, off' a + S1024x2048.size a ≤ S4096x2048.size a) (e : off' = ![1024 * j.val, 0])
    (f : Buf (Elt F) ((c : Thread nD τ).loc main_v9_0)) :
    (((xCh off' h).view.loc (c : Thread nD τ) ↦[(xCh off' h).view.set]{p} f) : sProp 𝕄) = ((c : Thread nD τ).loc main_v9_0 ↦[xRow j]{p} f) :=
  congrArg (fun S : Finset S4096x2048.Idx => (((c : Thread nD τ).loc main_v9_0 ↦[S]{p} f) : sProp 𝕄)) (xCh_set j h e)
theorem aSl_pt (h : ∀ a, off a + S1x8x128.size a ≤ S4x8x128.size a) (e : off = ![j.val, 0, 0])
    (f : Buf (Elt F) ((c : Thread nD τ).loc cc0_scratch3)) :
    (((aSl off h).view.loc (c : Thread nD τ) ↦[(aSl off h).view.set]{p} f) : sProp 𝕄) = ((c : Thread nD τ).loc cc0_scratch3 ↦[aSet j]{p} f) :=
  congrArg (fun S : Finset S4x8x128.Idx => (((c : Thread nD τ).loc cc0_scratch3 ↦[S]{p} f) : sProp 𝕄)) (aSl_set j h e)
theorem tM_pt (f : Buf (Elt F) ((c : Thread nD τ).loc cc0_scratch2)) :
    ((tM.view.loc (c : Thread nD τ) ↦[tM.view.set]{p} f) : sProp 𝕄) = ((c : Thread nD τ).loc cc0_scratch2 ↦{p} f) :=
  congrArg (fun S : Finset S8x128.Idx => (((c : Thread nD τ).loc cc0_scratch2 ↦[S]{p} f) : sProp 𝕄)) (View.set_whole _)
end Pts

variable (m : (ℓ : Loc nD τ sig) → Buf (Elt F) ℓ) (K : GSem nD τ sig → ℕ) (c : Dev nD)

/-- A slot's number, as a distance between devices. -/
abbrev dv (d : Fin 4) : Dev nD := d

/-- What every device holds and keeps. -/
def Pers : sProp 𝕄 := iprop(recs m K ∗ bigSep Finset.univ fun p : Dev nD => reachedAll p)
instance : BI.Persistent (Pers m K) := by unfold Pers; infer_instance

theorem Pers_reached (p : Dev nD) (k : CK) : Pers m K ⊢ reached ER (cell p k) 0 := by
  unfold Pers
  exact sep_elim_right.trans ((bigSep_elim (Φ := fun p : Dev nD => (reachedAll p : sProp 𝕄)) (Finset.mem_univ p)).trans (reachedAll_cell p k))
theorem Pers_cell (p : Dev nD) (k : CK) : Pers m K ⊢ cellInv ER (Rd m) (K (cell p k)) (cell p k) := by
  unfold Pers; exact sep_elim_left.trans (recs_cell m K p k)

/-- What the send of the maximum to slot `d` needs. -/
def bun (d : Fin 4) : sProp 𝕄 :=
  iprop(dutyTok ER (cell c (kASend d)) 0 0 ∗ dutyTok ER (cell (c + dv d) (kARecv d)) 0 0
    ∗ partAny (F := F) (c + dv d) cc0_scratch3 (aSet d))

abbrev smPt (v : F .f32) : sProp 𝕄 := ((c : Thread nD τ).loc cc0_scratch1) ↦{fullShare} (show Buf (Elt F) ((c : Thread nD τ).loc cc0_scratch1) from fun _ => v)

variable {m K c}

theorem mem_zero {d : Dev nD} : d ∈ ({d} : Finset (Dev nD)) := Finset.mem_singleton_self _

theorem send_max {Q : PUnit → sProp 𝕄} (d : Fin 4) (hd : d ≠ 0) {O : CellTallies nD τ sig Unit} {W : Idealize.ShloMosaic.Waits sig Unit} {off : Fin 3 → ℕ}
    {h : ∀ a, off a + S1x8x128.size a ≤ S4x8x128.size a} (e : off = ![d.val, 0, 0]) {p : Dev nD} (hp : p = c + dv d)
    {sS sR : DmaSem sig} (hs : SemLoc.dma sS = osem0 (kASend d)) (hr : SemLoc.dma sR = osem0 (kARecv d))
    {h1 : tM.view.WordExact} {h2 : (aSl off h).view.WordExact} {h4 : (aSl off h).view.ref.isScScratch = false}
    {h3 : DmaTarget.Typed .vmem (.dma sR) (.remote (Dev.tc p) (aSl off h) (.dma sS) h4)} :
    iprop(Pers m K ∗ bun c d ∗ (((c : Thread nD τ).loc cc0_scratch2) ↦{shr d} Tile m c)
      ∗ owes (c : Thread nD τ) (O + tallyAt (cell (c + dv d) (kARecv d)) () NA) W)
    ⊢ iprop((cred (tallyAt (cell c (kASend d)) () NA) ∗ owes (c : Thread nD τ) O W -∗ Q ⟨⟩)
      -∗ WP c (Prog.lift (.enqueueDma tM (.remote (Dev.tc p) (aSl off h) (.dma sS) h4) (.dma sR) h1 h2 h3)) Q) := by
  subst hp
  have l1 : live (kASend d) := ⟨fun hh => hd (by injection hh with hh; injection hh with hh; injection hh), fun hh => by injection hh with hh; injection hh with hh; injection hh⟩
  have l2 : live (kARecv d) := ⟨fun hh => by injection hh with hh; injection hh with hh; injection hh, fun hh => hd (by injection hh with hh; injection hh with hh; injection hh)⟩
  rw [lift_wp]
  unfold bun
  iintro ⟨#HP, ⟨Ht1, Ht2, ⟨%f, Ha⟩⟩, Htile, HO⟩ Hk
  iapply (Rounds.wp_send_pointsTo 𝒱₀ ER (Rd m) (c : Thread nD τ) none (r₁ := 0) (r₂ := 0) (d₁ := 0) (d₂ := 0)
    (κ₁ := K (cell c (kASend d))) (κ₂ := K (cell (c + dv d) (kARecv d))) (q := shr d) (fs := Tile m c) (fd := f)
    (by rw [hs, duties_cell m c _ l1]; exact mem_zero) (by rw [hr]; exact (duties_cell m (c + dv d) _ l2).symm ▸ mem_zero) () () NA rfl
    (by rw [hs]; exact amount_cell m c (kASend d) 0) (by rw [hr]; exact amount_cell m (c + dv d) (kARecv d) 0) O (by rw [hr]) (W := W)
    (by rw [tM_pt, hs]; exact (Entails.of_eq (payload_cell m c (kASend d) 0).symm))
    (by
      rw [hr]
      exact Entails.of_eq ((aSl_pt (c + dv d) d fullShare h e _).trans
        ((pointsTo_congr fun i hi => landed_max m c d h e f i hi).trans (payload_cell m (c + dv d) (kARecv d) 0).symm)))) $$ [Ht1 Ht2 Ha Htile HO]
  · rw [hs, hr, tM_pt, aSl_pt (c + dv d) d fullShare h e]
    isplitr; · iapply (Pers_cell m K c (kASend d)); iexact HP
    isplitr; · iapply (Pers_cell m K (c + dv d) (kARecv d)); iexact HP
    isplitl [Htile]; · iexact Htile
    isplitl [Ha]; · iexact Ha
    isplitl [HO]; · iexact HO
    isplitl [Ht1]; · iexact Ht1
    isplitr; · iapply (Pers_reached m K c (kASend d)); iexact HP
    isplitl [Ht2]; · iexact Ht2
    iapply (Pers_reached m K (c + dv d) (kARecv d)); iexact HP
  rw [hs]
  iintro H
  rw [wp_ret]
  imodintro
  iapply Hk
  iexact H

/-- What the send of a piece needs besides the piece. -/
def tkt (c : Dev nD) (x : Fin 3 × Fin 8) : sProp 𝕄 :=
  iprop(partAny (F := F) (peer c x.1.castSucc) main_v9_0 (xSet c x.2) ∗ dutyTok ER (cell c (kSend x)) 0 0
    ∗ dutyTok ER (cell (peer c x.1.castSucc) (kRecv x)) 0 0)

theorem send_piece {Q : PUnit → sProp 𝕄} (x : Fin 3 × Fin 8) {O : CellTallies nD τ sig Unit} {W : Idealize.ShloMosaic.Waits sig Unit}
    {off : Fin 3 → ℕ} {off' : Fin 2 → ℕ}
    {h : ∀ a, off a + S1x1024x256.size a ≤ S4x1024x2048.size a} (e : off = ![x.1.castSucc.val, 0, 256 * x.2.val])
    {h' : ∀ a, off' a + S1024x256.size a ≤ S4096x2048.size a} (e' : off' = ![1024 * c.val, 256 * x.2.val])
    {p : Dev nD} (hp : p = peer c x.1.castSucc)
    {sS sR : DmaSem sig} (hs : SemLoc.dma sS = osem0 (kSend x)) (hr : SemLoc.dma sR = osem0 (kRecv x))
    {h1 : (yPc off h).view.WordExact} {h2 : (xPc off' h').view.WordExact} {h4 : (xPc off' h').view.ref.isScScratch = false}
    {h3 : DmaTarget.Typed .vmem (.dma sR) (.remote (Dev.tc p) (xPc off' h') (.dma sS) h4)} :
    iprop(Pers m K ∗ part c cc0_scratch0 (ySet x.1.castSucc x.2) (Yb m c) ∗ tkt c x
      ∗ owes (c : Thread nD τ) (O + tallyAt (cell (peer c x.1.castSucc) (kRecv x)) () NC) W)
    ⊢ iprop((cred (tallyAt (cell c (kSend x)) () NC) ∗ owes (c : Thread nD τ) O W -∗ Q ⟨⟩)
      -∗ WP c (Prog.lift (.enqueueDma (yPc off h) (.remote (Dev.tc p) (xPc off' h') (.dma sS) h4) (.dma sR) h1 h2 h3)) Q) := by
  subst hp
  have l1 : live (kSend x) := ⟨fun hh => by injection hh with hh; injection hh, fun hh => by injection hh with hh; injection hh⟩
  have l2 : live (kRecv x) := ⟨fun hh => by injection hh with hh; injection hh, fun hh => by injection hh with hh; injection hh⟩
  have ep : (pay m (peer c x.1.castSucc) (kRecv x) : sProp 𝕄) = part (peer c x.1.castSucc) main_v9_0 (xSet c x.2) (Yx m (peer c x.1.castSucc)) := by
    show part (peer c x.1.castSucc) main_v9_0 (xSet (peer c x.1.castSucc - hop x.1.castSucc) x.2) (Yx m (peer c x.1.castSucc)) = _
    rw [(by decide : ∀ (c : Dev nD) (j : Fin 4), peer c j - hop j = c) c x.1.castSucc]
  rw [lift_wp]
  unfold tkt
  iintro ⟨#HP, Hy, ⟨⟨%f, Ha⟩, Ht1, Ht2⟩, HO⟩ Hk
  iapply (Rounds.wp_send_pointsTo 𝒱₀ ER (Rd m) (c : Thread nD τ) none (r₁ := 0) (r₂ := 0) (d₁ := 0) (d₂ := 0)
    (κ₁ := K (cell c (kSend x))) (κ₂ := K (cell (peer c x.1.castSucc) (kRecv x))) (q := fullShare) (fs := Yb m c) (fd := f)
    (by rw [hs, duties_cell m c _ l1]; exact mem_zero) (by rw [hr]; exact (duties_cell m (peer c x.1.castSucc) _ l2).symm ▸ mem_zero) () () NC rfl
    (by rw [hs]; exact amount_cell m c (kSend x) 0) (by rw [hr]; exact amount_cell m (peer c x.1.castSucc) (kRecv x) 0) O (by rw [hr]) (W := W)
    (by rw [yPc_pt c x.1.castSucc x.2 fullShare h e, hs]; exact (Entails.of_eq (payload_cell m c (kSend x) 0).symm))
    (by
      rw [hr]
      exact Entails.of_eq ((xPc_pt (peer c x.1.castSucc) c x.2 fullShare h' e' _).trans
        ((pointsTo_congr fun i hi => landed m c x.2 x.1.castSucc h e h' e' f i hi).trans
          (ep.symm.trans (payload_cell m (peer c x.1.castSucc) (kRecv x) 0).symm))))) $$ [Ht1 Ht2 Ha Hy HO]
  · rw [hs, hr, yPc_pt c x.1.castSucc x.2 fullShare h e, xPc_pt (peer c x.1.castSucc) c x.2 fullShare h' e']
    isplitr; · iapply (Pers_cell m K c (kSend x)); iexact HP
    isplitr; · iapply (Pers_cell m K (peer c x.1.castSucc) (kRecv x)); iexact HP
    isplitl [Hy]; · iexact Hy
    isplitl [Ha]; · iexact Ha
    isplitl [HO]; · iexact HO
    isplitl [Ht1]; · iexact Ht1
    isplitr; · iapply (Pers_reached m K c (kSend x)); iexact HP
    isplitl [Ht2]; · iexact Ht2
    iapply (Pers_reached m K (peer c x.1.castSucc) (kRecv x)); iexact HP
  rw [hs]
  iintro H
  rw [wp_ret]
  imodintro
  iapply Hk
  iexact H

theorem copy_own {Q : PUnit → sProp 𝕄} {off : Fin 3 → ℕ} {off' : Fin 2 → ℕ}
    {h : ∀ a, off a + S1x1024x2048.size a ≤ S4x1024x2048.size a} (e : off = ![(3 : Fin 4).val, 0, 0])
    {h' : ∀ a, off' a + S1024x2048.size a ≤ S4096x2048.size a} (e' : off' = ![1024 * c.val, 0])
    {s : DmaSem sig} (hs : SemLoc.dma s = osem0 kCopy)
    {h1 : (yCh off h).view.WordExact} {h2 : (xCh off' h').view.WordExact}
    {h3 : DmaTarget.Typed (nD := nD) (τ := τ) (p := .tc) .vmem (.dma s) (.here (xCh off' h'))} :
    iprop(Pers m K ∗ part c cc0_scratch0 (ySlab 3) (Yb m c) ∗ partAny (F := F) c main_v9_0 (xRow c) ∗ dutyTok ER (cell c kCopy) 0 0)
    ⊢ iprop((cred (tallyAt (cell c kCopy) () NL) -∗ Q ⟨⟩)
      -∗ WP c (Prog.lift (.enqueueDma (yCh off h) (.here (xCh off' h')) (.dma s) h1 h2 h3)) Q) := by
  have l1 : live kCopy := ⟨fun hh => by injection hh, fun hh => by injection hh⟩
  rw [lift_wp]
  iintro ⟨#HP, Hy, ⟨%f, Ha⟩, Ht⟩ Hk
  iapply (Rounds.wp_copy_pointsTo 𝒱₀ ER (Rd m) (c : Thread nD τ) none (r := 0) (d := 0)
    (κ := K (cell c kCopy)) (q := fullShare) (fs := Yb m c) (fd := f)
    (by rw [hs, duties_cell m c _ l1]; exact mem_zero) () NL rfl
    (by rw [hs]; exact amount_cell m c kCopy 0)
    (by
      rw [hs]
      refine (BIClass.sep_mono (Entails.of_eq ((xCh_pt c c fullShare h' e' _).trans (pointsTo_congr fun i hi => landed_own m c h e h' e' f i hi)))
        (Entails.of_eq (yCh_pt c 3 fullShare h e _))).trans ?_
      exact Entails.of_eq (payload_cell m c kCopy 0).symm)) $$ [Ht Ha Hy]
  · rw [hs, yCh_pt c 3 fullShare h e, xCh_pt c c fullShare h' e']
    isplitr; · iapply (Pers_cell m K c kCopy); iexact HP
    isplitl [Hy]; · iexact Hy
    isplitl [Ha]; · iexact Ha
    isplitl [Ht]; · iexact Ht
    iapply (Pers_reached m K c kCopy); iexact HP
  rw [hs]
  iintro H
  rw [wp_ret]
  imodintro
  iapply Hk
  iexact H

/-! ## Loads and stores -/

theorem sm_load {Q : F .f32 → sProp 𝕄} {v : F .f32} {h : ∀ a, (![0] : Fin 1 → ℕ) a + S1.size a ≤ S1.size a} {h1 : (Rect.unit (s := S1) ![0] S1.size h).shape.numel = 1}
    {hp : EltTy.f32.packing = 1} :
    smPt c v ⊢ iprop((smPt c v -∗ Q v) -∗ WP c (smemLoad sM (Rect.unit (s := S1) ![0] S1.size h) h1 hp) Q) := by
  unfold smemLoad WP
  iintro Hs Hk
  iapply (wp_smemLoadElt 𝒱₀ (c : Thread nD τ) none Set.univ (m := sM) (S := Finset.univ) (q := fullShare)
    (f := fun _ => v) (Finset.subset_univ _)) $$ [Hs]
  · iexact Hs
  iintro Hs
  rw [wp_ret]
  imodintro
  iapply (show Q v ⊢ Q ((sM.access (Rect.unit (s := S1) ![0] S1.size h)).read (Elt F) (fun _ => v) (Shape.Idx.first _)) from .rfl)
  iapply Hk
  iexact Hs

theorem sm_store {Q : PUnit → sProp 𝕄} {v : Buf (Elt F) ((c : Thread nD τ).loc cc0_scratch1)} {w : F .f32}
    {h : ∀ a, (![0] : Fin 1 → ℕ) a + S1.size a ≤ S1.size a} {h1 h2} :
    iprop(((c : Thread nD τ).loc cc0_scratch1) ↦{fullShare} v)
    ⊢ iprop((smPt c w -∗ Q ⟨⟩) -∗ WP c (Prog.lift (.store sM (Rect.unit (s := S1) ![0] S1.size h) (fun _ => w) Finset.univ h1 h2)) Q) := by
  have ew : ((sM.access (Rect.unit (s := S1) ![0] S1.size h)).write (Elt F) v (fun _ => w) Finset.univ : S1.Idx → Elt F .f32) = fun _ => w := by
    funext i
    have hi : i = (sM.access (Rect.unit (s := S1) ![0] S1.size h)).emb i := by
      funext k
      fin_cases k
      exact Subsingleton.elim (α := Fin 1) _ _
    rw [hi]
    exact View.write_emb_of_mem (Val := Elt F) (v := sM.access (Rect.unit (s := S1) ![0] S1.size h)) v _ (Finset.mem_univ i)
  rw [lift_wp]
  iintro Hs Hk
  iapply (wp_store 𝒱₀ (c : Thread nD τ) none Set.univ (m := sM) (r := Rect.unit (s := S1) ![0] S1.size h) (w := fun _ => w) (Mk := Finset.univ)
    (S := Finset.univ) (f := v) (Finset.subset_univ _)) $$ [Hs]
  · iexact Hs
  iintro Hs
  rw [wp_ret]
  imodintro
  iapply Hk
  have e2 := congrArg (fun f : Buf (Elt F) ((c : Thread nD τ).loc cc0_scratch1) => (((c : Thread nD τ).loc cc0_scratch1 ↦{fullShare} f) : sProp 𝕄)) ew
  iapply (Entails.of_eq e2)
  iexact Hs

theorem tile_load {Q : Vec F S8x128 .f32 → sProp 𝕄} {f : Buf (Elt F) ((c : Thread nD τ).loc cc0_scratch2)}
    {h : ∀ a, (![0, 0] : Fin 2 → ℕ) a + S8x128.size a ≤ S8x128.size a} {h1} :
    iprop(((c : Thread nD τ).loc cc0_scratch2) ↦{fullShare} f)
    ⊢ iprop((∀ v, (((c : Thread nD τ).loc cc0_scratch2) ↦{fullShare} f) -∗ Q v)
      -∗ WP c (Prog.lift (.load tM (Rect.unit (s := S8x128) ![0, 0] S8x128.size h).toLoadRect h1)) Q) := by
  rw [lift_wp]
  iintro Hs Hk
  iapply (wp_load 𝒱₀ (c : Thread nD τ) none Set.univ (m := tM) (S := Finset.univ) (q := fullShare) (f := f) (Finset.subset_univ _)) $$ [Hs]
  · iexact Hs
  iintro Hs
  rw [wp_ret]
  imodintro
  iapply Hk
  iexact Hs

/-- The whole of a tile, as a rectangle. -/
theorem whole_tile {h : ∀ a, (![0, 0] : Fin 2 → ℕ) a + S8x128.size a ≤ S8x128.size a} (i : S8x128.Idx) :
    (Rect.unit (s := S8x128) ![0, 0] S8x128.size h).emb i = i := by
  funext k
  apply Fin.ext
  fin_cases k
  · show 0 + 1 * (i 0).val = (i 0).val; omega
  · show 0 + 1 * (i 1).val = (i 1).val; omega

theorem tile_store {Q : PUnit → sProp 𝕄} {f : Buf (Elt F) ((c : Thread nD τ).loc cc0_scratch2)} {w : Vec F S8x128 .f32}
    {h : ∀ a, (![0, 0] : Fin 2 → ℕ) a + S8x128.size a ≤ S8x128.size a} {h1 h2} :
    iprop(((c : Thread nD τ).loc cc0_scratch2) ↦{fullShare} f)
    ⊢ iprop(((((c : Thread nD τ).loc cc0_scratch2) ↦{fullShare} (show Buf (Elt F) ((c : Thread nD τ).loc cc0_scratch2) from w)) -∗ Q ⟨⟩)
      -∗ WP c (Prog.lift (.store tM (Rect.unit (s := S8x128) ![0, 0] S8x128.size h) w Finset.univ h1 h2)) Q) := by
  have ew : ((tM.access (Rect.unit (s := S8x128) ![0, 0] S8x128.size h)).write (Elt F) f w Finset.univ : S8x128.Idx → Elt F .f32) = w := by
    funext i
    refine Eq.trans (congrArg _ (whole_tile (h := h) i).symm) ?_
    exact View.write_emb_of_mem (Val := Elt F) (v := tM.access (Rect.unit (s := S8x128) ![0, 0] S8x128.size h)) f _ (Finset.mem_univ i)
  rw [lift_wp]
  iintro Hs Hk
  iapply (wp_store 𝒱₀ (c : Thread nD τ) none Set.univ (m := tM) (r := Rect.unit (s := S8x128) ![0, 0] S8x128.size h) (w := w) (Mk := Finset.univ)
    (S := Finset.univ) (f := f) (Finset.subset_univ _)) $$ [Hs]
  · iexact Hs
  iintro Hs
  rw [wp_ret]
  imodintro
  iapply Hk
  have e2 := congrArg (fun f : Buf (Elt F) ((c : Thread nD τ).loc cc0_scratch2) => (((c : Thread nD τ).loc cc0_scratch2 ↦{fullShare} f) : sProp 𝕄)) ew
  iapply (Entails.of_eq e2)
  iexact Hs

end Cert.KernelIdeal
end
-- ==== Proof.Assemble.lean ====
/-
  Putting together and taking apart what a device holds at the kernel's last point: the credits for the waits, the cells closed after
  them, and the buffers from their pieces.
-/
module

public import proofs.«01_k».proof.Proof.Steps

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_three (Φ : Fin 3 → sProp 𝕄) : bigSep Finset.univ Φ = iprop(Φ 0 ∗ Φ 1 ∗ Φ 2) :=
  bigSep_univ_eq_bigSepL [0, 1, 2] (by decide) (by decide) Φ
theorem sep_one (Φ : Unit → sProp 𝕄) : bigSep Finset.univ Φ = Φ () :=
  bigSep_univ_eq_bigSepL [()] (by decide) (by decide) Φ

/-- Over all cells: the copy's, the pieces', the maxima's. -/
theorem sep_cells (Φ : CK → sProp 𝕄) : bigSep Finset.univ Φ
    = iprop(Φ kCopy ∗ ((bigSep Finset.univ fun x => Φ (kSend x)) ∗ bigSep Finset.univ fun x => Φ (kRecv x))
      ∗ (Φ (kASend 0) ∗ Φ (kASend 1) ∗ Φ (kASend 2) ∗ Φ (kASend 3)) ∗ (Φ (kARecv 0) ∗ Φ (kARecv 1) ∗ Φ (kARecv 2) ∗ Φ (kARecv 3))) := by
  rw [bigSep_univ_sum, sep_one, bigSep_univ_sum, bigSep_univ_sum, bigSep_univ_sum, sep_four, sep_four]
  rfl

variable (m : (ℓ : Loc nD τ sig) → Buf (Elt F) ℓ) (K : GSem nD τ sig → ℕ) (c : Dev nD)

theorem live_send (x : Fin 3 × Fin 8) : live (kSend x) :=
  ⟨fun hh => by injection hh with hh; injection hh, fun hh => by injection hh with hh; injection hh⟩
theorem live_recv (x : Fin 3 × Fin 8) : live (kRecv x) :=
  ⟨fun hh => by injection hh with hh; injection hh, fun hh => by injection hh with hh; injection hh⟩

/-- A cell's credit, if it is used. -/
def credL (k : CK) : sProp 𝕄 := if live k then cred (tallyAt (cell c k) () (credit k)) else iprop(emp)
/-- What came with a cell, if it is used. -/
def payL (k : CK) : sProp 𝕄 := if live k then pay m c k else iprop(emp)

theorem waits_zero :
    iprop((bigSep Finset.univ fun k : CK => atPos ER (cell c k) 0 ∅ 0) ∗ bigSep Finset.univ (credL c)) ⊢ Waits m c 0 := by
  unfold Waits
  rw [← bigSep_sep']
  exact Entails.of_eq (bigSep_congr fun k _ => by unfold waitsAt credL; rw [if_neg (Nat.not_lt_zero _)])

theorem creds_split : bigSep Finset.univ (credL (F := F) c)
    = iprop(cred (tallyAt (cell c kCopy) () NL)
      ∗ ((bigSep Finset.univ fun x => cred (tallyAt (cell c (kSend x)) () NC)) ∗ bigSep Finset.univ fun x => cred (tallyAt (cell c (kRecv x)) () NC))
      ∗ (emp ∗ cred (tallyAt (cell c (kASend 1)) () NA) ∗ cred (tallyAt (cell c (kASend 2)) () NA) ∗ cred (tallyAt (cell c (kASend 3)) () NA))
      ∗ (emp ∗ cred (tallyAt (cell c (kARecv 1)) () NA) ∗ cred (tallyAt (cell c (kARecv 2)) () NA) ∗ cred (tallyAt (cell c (kARecv 3)) () NA))) := by
  rw [sep_cells]
  have e1 : ∀ x, (credL c (kSend x) : sProp 𝕄) = cred (tallyAt (cell c (kSend x)) () NC) := fun x => if_pos (live_send x)
  have e2 : ∀ x, (credL c (kRecv x) : sProp 𝕄) = cred (tallyAt (cell c (kRecv x)) () NC) := fun x => if_pos (live_recv x)
  rw [bigSep_congr fun x _ => e1 x, bigSep_congr fun x _ => e2 x]
  rfl

theorem pays_split : bigSep Finset.univ (payL m c)
    = iprop((part c main_v9_0 (xRow c) (Yx m c) ∗ part c cc0_scratch0 (ySlab 3) (Yb m c))
      ∗ ((bigSep Finset.univ fun x : Fin 3 × Fin 8 => part c cc0_scratch0 (ySet x.1.castSucc x.2) (Yb m c))
        ∗ bigSep Finset.univ fun x : Fin 3 × Fin 8 => part c main_v9_0 (xSet (c - hop x.1.castSucc) x.2) (Yx m c))
      ∗ (emp ∗ (((c : Thread nD τ).loc cc0_scratch2) ↦{shr 1} Tile m c) ∗ (((c : Thread nD τ).loc cc0_scratch2) ↦{shr 2} Tile m c)
        ∗ (((c : Thread nD τ).loc cc0_scratch2) ↦{shr 3} Tile m c))
      ∗ (emp ∗ part c cc0_scratch3 (aSet 1) (AA m c) ∗ part c cc0_scratch3 (aSet 2) (AA m c) ∗ part c cc0_scratch3 (aSet 3) (AA m c))) := by
  rw [sep_cells]
  have e1 : ∀ x : Fin 3 × Fin 8, (payL m c (kSend x) : sProp 𝕄) = part c cc0_scratch0 (ySet x.1.castSucc x.2) (Yb m c) := fun x => if_pos (live_send x)
  have e2 : ∀ x : Fin 3 × Fin 8, (payL m c (kRecv x) : sProp 𝕄) = part c main_v9_0 (xSet (c - hop x.1.castSucc) x.2) (Yx m c) := fun x => if_pos (live_recv x)
  rw [bigSep_congr fun x _ => e1 x, bigSep_congr fun x _ => e2 x]
  rfl

theorem rank_lt (k : CK) : rank k < 55 ↔ live k := by
  refine ⟨live_of_rank k, fun h => ?_⟩
  rcases k with u | (x | x) | (d | d)
  · show 0 < 55
    decide
  · show 1 + (8 * x.1.val + x.2.val) < 55
    have := x.1.isLt; have := x.2.isLt; omega
  · show 25 + (8 * x.1.val + x.2.val) < 55
    have := x.1.isLt; have := x.2.isLt; omega
  · have : d ≠ 0 := fun hd => h.1 (by rw [hd])
    revert d; decide
  · have : d ≠ 0 := fun hd => h.2 (by rw [hd])
    revert d; decide

/-- After the waits every cell is closed. -/
theorem waits_close : iprop(recs m K ∗ Waits m c 55)
    ⊢ iprop(|={Set.univ}=> ((bigSep Finset.univ fun k : CK => semVal (cell c k) 0) ∗ bigSep Finset.univ (payL m c))) := by
  have hk : ∀ k : CK, iprop(recs m K ∗ waitsAt m c 55 k) ⊢ iprop(|={Set.univ}=> (semVal (cell c k) 0 ∗ payL m c k)) := fun k => by
    unfold waitsAt payL
    by_cases h : live k
    · rw [if_pos ((rank_lt k).mpr h), if_pos h]
      iintro ⟨#Hr, Hat, Hp⟩
      imod (Rounds.cell_close (E := ER) (Rd := Rd m) (g := cell c k) (κ := K (cell c k)) (Set.mem_univ _) (fun h => h) (duties_later m (cell c k))) $$ [Hat] with Hv
      · isplitr; · iapply (recs_cell m K c k); iexact Hr
        iexact Hat
      imodintro
      isplitl [Hv] <;> iassumption
    · rw [if_neg (fun hh => h ((rank_lt k).mp hh)), if_neg h, if_neg h]
      iintro ⟨#Hr, Hat, -⟩
      imod (Rounds.cell_close (E := ER) (Rd := Rd m) (g := cell c k) (κ := K (cell c k)) (Set.mem_univ _) (fun h => h) (fun r _ => duties_dead m c k h r)) $$ [Hat] with Hv
      · isplitr; · iapply (recs_cell m K c k); iexact Hr
        iexact Hat
      imodintro
      isplitl [Hv]; · iexact Hv
      iempintro
  unfold Waits
  rw [← bigSep_sep']
  iintro ⟨#Hr, Hw⟩
  iapply (bigSep_fupd Finset.univ fun k : CK => iprop(semVal (cell c k) 0 ∗ payL m c k))
  iapply (bigSep_with_persistent (R := recs m K) fun k _ => hk k) $$ [Hw]
  isplitr; · iexact Hr
  iexact Hw

/-! ## The buffers from their pieces -/

theorem yb_join : iprop(part c cc0_scratch0 (ySlab 3) (Yb m c)
      ∗ bigSep Finset.univ fun x : Fin 3 × Fin 8 => part c cc0_scratch0 (ySet x.1.castSucc x.2) (Yb m c))
    ⊢ iprop(((c : Thread nD τ).loc cc0_scratch0) ↦{fullShare} Yb m c) := by
  have e1 : ((((c : Thread nD τ).loc cc0_scratch0) ↦{fullShare} Yb m c) : sProp 𝕄) = bigSep Finset.univ fun j : Fin 4 => part c cc0_scratch0 (ySlab j) (Yb m c) :=
    (congrArg (fun S : Finset S4x1024x2048.Idx => ((((c : Thread nD τ).loc cc0_scratch0) ↦[S]{fullShare} Yb m c) : sProp 𝕄)) univ_ySlab).trans
      (pointsTo_biUnion (ℓ := (c : Thread nD τ).loc cc0_scratch0) Finset.univ ySlab fun a ha b hb hab => ySlab_disj ha hb hab)
  have e2 : ∀ j : Fin 4, (part c cc0_scratch0 (ySlab j) (Yb m c) : sProp 𝕄) = bigSep Finset.univ fun q : Fin 8 => part c cc0_scratch0 (ySet j q) (Yb m c) := fun j =>
    (congrArg (fun S : Finset S4x1024x2048.Idx => ((((c : Thread nD τ).loc cc0_scratch0) ↦[S]{fullShare} Yb m c) : sProp 𝕄)) (ySlab_eq j)).trans
      (pointsTo_biUnion (ℓ := (c : Thread nD τ).loc cc0_scratch0) Finset.univ (ySet j) fun a ha b hb hab => ySet_disj j ha hb hab)
  rw [e1, sep_four, bigSep_univ_prod, sep_three]
  iintro ⟨H3, H0, H1, H2⟩
  isplitl [H0]; · iapply (Entails.of_eq (e2 0).symm); iexact H0
  isplitl [H1]; · iapply (Entails.of_eq (e2 1).symm); iexact H1
  isplitl [H2]; · iapply (Entails.of_eq (e2 2).symm); iexact H2
  iexact H3

theorem xrow_eq (s : Fin 4) (f : Buf (Elt F) ((c : Thread nD τ).loc main_v9_0)) :
    (part c main_v9_0 (xRow s) f : sProp 𝕄) = bigSep Finset.univ fun q : Fin 8 => part c main_v9_0 (xSet s q) f :=
  (congrArg (fun S : Finset S4096x2048.Idx => ((((c : Thread nD τ).loc main_v9_0) ↦[S]{fullShare} f) : sProp 𝕄)) (xRow_eq s)).trans
    (pointsTo_biUnion (ℓ := (c : Thread nD τ).loc main_v9_0) Finset.univ (xSet s) fun a ha b hb hab => xSet_disj s ha hb hab)

/-- The rows of the four senders, by the distance between sender and device. -/
theorem x_rows (f : Buf (Elt F) ((c : Thread nD τ).loc main_v9_0)) :
    ((((c : Thread nD τ).loc main_v9_0) ↦{fullShare} f) : sProp 𝕄)
      = iprop(part c main_v9_0 (xRow c) f ∗ part c main_v9_0 (xRow (c + 1)) f ∗ part c main_v9_0 (xRow (c + 2)) f ∗ part c main_v9_0 (xRow (c + 3)) f) := by
  have e1 : ((((c : Thread nD τ).loc main_v9_0) ↦{fullShare} f) : sProp 𝕄) = bigSep Finset.univ fun s : Fin 4 => part c main_v9_0 (xRow s) f :=
    (congrArg (fun S : Finset S4096x2048.Idx => ((((c : Thread nD τ).loc main_v9_0) ↦[S]{fullShare} f) : sProp 𝕄)) univ_xRow).trans
      (pointsTo_biUnion (ℓ := (c : Thread nD τ).loc main_v9_0) Finset.univ xRow fun a ha b hb hab => xRow_disj ha hb hab)
  rw [e1, bigSep_univ_eq_bigSepL [c, c + 1, c + 2, c + 3] ((by decide : ∀ c : Fin 4, Finset.univ = [c, c + 1, c + 2, c + 3].toFinset) c)
    ((by decide : ∀ c : Fin 4, [c, c + 1, c + 2, c + 3].Nodup) c)]
  rfl

theorem yx_join : iprop(part c main_v9_0 (xRow c) (Yx m c)
      ∗ bigSep Finset.univ fun x : Fin 3 × Fin 8 => part c main_v9_0 (xSet (c - hop x.1.castSucc) x.2) (Yx m c))
    ⊢ iprop(((c : Thread nD τ).loc main_v9_0) ↦{fullShare} Yx m c) := by
  rw [x_rows, bigSep_univ_prod, sep_three]
  have h0 : c - hop (Fin.castSucc 0) = c + 2 := by revert c; decide
  have h1 : c - hop (Fin.castSucc 1) = c + 1 := by revert c; decide
  have h2 : c - hop (Fin.castSucc 2) = c + 3 := by revert c; decide
  dsimp only
  rw [h0, h1, h2]
  iintro ⟨H, H0, H1, H2⟩
  isplitl [H]; · iexact H
  isplitl [H1]; · iapply (Entails.of_eq (xrow_eq c (c + 1) (Yx m c)).symm); iexact H1
  isplitl [H0]; · iapply (Entails.of_eq (xrow_eq c (c + 2) (Yx m c)).symm); iexact H0
  iapply (Entails.of_eq (xrow_eq c (c + 3) (Yx m c)).symm); iexact H2

/-- The tile's three shares. -/
theorem tile_shares (f : Buf (Elt F) ((c : Thread nD τ).loc cc0_scratch2)) :
    ((((c : Thread nD τ).loc cc0_scratch2) ↦{fullShare} f) : sProp 𝕄)
      ⊣⊢ iprop((((c : Thread nD τ).loc cc0_scratch2) ↦{shr 1} f) ∗ (((c : Thread nD τ).loc cc0_scratch2) ↦{shr 2} f)
        ∗ (((c : Thread nD τ).loc cc0_scratch2) ↦{shr 3} f)) := by
  have h1 := pointsTo_share (Ix := Unit) (Name := ℕ) (U := UU) (Lvl := ℕ) (ℓ := (c : Thread nD τ).loc cc0_scratch2) (I := Finset.univ) (f := f) (PosShare.mem_left_op_right fullShare)
  have h2 := pointsTo_share (Ix := Unit) (Name := ℕ) (U := UU) (Lvl := ℕ) (ℓ := (c : Thread nD τ).loc cc0_scratch2) (I := Finset.univ) (f := f) (PosShare.mem_left_op_right fullShare.right)
  constructor
  · iintro H
    ihave H' := h1.1 $$ H
    icases H' with ⟨Ha, Hb⟩
    ihave Hb' := h2.1 $$ Hb
    icases Hb' with ⟨Hb, Hc⟩
    isplitl [Ha]; · iexact Ha
    isplitl [Hb]; · iexact Hb
    iexact Hc
  · iintro ⟨Ha, Hb, Hc⟩
    iapply h1.2
    isplitl [Ha]; · iexact Ha
    iapply h2.2
    isplitl [Hb]; · iexact Hb
    iexact Hc

/-- The slots of the maxima. -/
theorem a_slots (f : Buf (Elt F) ((c : Thread nD τ).loc cc0_scratch3)) :
    ((((c : Thread nD τ).loc cc0_scratch3) ↦{fullShare} f) : sProp 𝕄)
      = iprop(part c cc0_scratch3 (aSet 0) f ∗ part c cc0_scratch3 (aSet 1) f ∗ part c cc0_scratch3 (aSet 2) f ∗ part c cc0_scratch3 (aSet 3) f) := by
  have e1 : ((((c : Thread nD τ).loc cc0_scratch3) ↦{fullShare} f) : sProp 𝕄) = bigSep Finset.univ fun s : Fin 4 => part c cc0_scratch3 (aSet s) f :=
    (congrArg (fun S : Finset S4x8x128.Idx => ((((c : Thread nD τ).loc cc0_scratch3) ↦[S]{fullShare} f) : sProp 𝕄)) univ_aSet).trans
      (pointsTo_biUnion (ℓ := (c : Thread nD τ).loc cc0_scratch3) Finset.univ aSet fun a ha b hb hab => aSet_disj ha hb hab)
  rw [e1, sep_four]

theorem aa_join : iprop(partAny (F := F) c cc0_scratch3 (aSet 0) ∗ part c cc0_scratch3 (aSet 1) (AA m c) ∗ part c cc0_scratch3 (aSet 2) (AA m c)
      ∗ part c cc0_scratch3 (aSet 3) (AA m c))
    ⊢ iprop(∃ f : (⟨S4x8x128, .f32⟩ : BufTy).Contents (Elt F), ⌜∀ i : S4x8x128.Idx, (i 0).val ≠ 0 → f i = AA m c i⌝
      ∗ ((c : Thread nD τ).loc cc0_scratch3) ↦{fullShare} (show Buf (Elt F) ((c : Thread nD τ).loc cc0_scratch3) from f)) := by
  iintro ⟨⟨%f0, H0⟩, H1, H2, H3⟩
  iexists (fun i : S4x8x128.Idx => if (i 0).val = 0 then (show (⟨S4x8x128, .f32⟩ : BufTy).Contents (Elt F) from f0) i else AA m c i)
  isplitr
  · ipureintro
    intro i hi
    exact if_neg hi
  iapply (Entails.of_eq (a_slots c _).symm)
  have e0 : ∀ i ∈ aSet 0, (show (⟨S4x8x128, .f32⟩ : BufTy).Contents (Elt F) from f0) i
      = if (i 0).val = 0 then (show (⟨S4x8x128, .f32⟩ : BufTy).Contents (Elt F) from f0) i else AA m c i := fun i hi => (if_pos (mem_aSet.mp hi)).symm
  have e1 : ∀ d : Fin 4, d ≠ 0 → ∀ i ∈ aSet d, AA m c i
      = if (i 0).val = 0 then (show (⟨S4x8x128, .f32⟩ : BufTy).Contents (Elt F) from f0) i else AA m c i := fun d hd i hi =>
    (if_neg fun h => hd (Fin.ext ((mem_aSet.mp hi).symm.trans h))).symm
  isplitl [H0]; · iapply (Entails.of_eq (pointsTo_congr e0)); iexact H0
  isplitl [H1]; · iapply (Entails.of_eq (pointsTo_congr (e1 1 (by decide)))); iexact H1
  isplitl [H2]; · iapply (Entails.of_eq (pointsTo_congr (e1 2 (by decide)))); iexact H2
  iapply (Entails.of_eq (pointsTo_congr (e1 3 (by decide)))); iexact H3

end Cert.KernelIdeal
end
-- ==== Proof.Finish.lean ====
/-
  The kernel's last point after its last product: the device's own chunk copied, its maximum sent to the others, all transfers waited
  for, all cells closed.
-/
module

public import proofs.«01_k».proof.Proof.PartsW
public import proofs.«01_k».proof.Proof.Assemble

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- What a device holds unchanged from the barrier to the last point. -/
def Keep : sProp 𝕄 :=
  iprop((bigSep Finset.univ fun k : CK => atPos ER (cell c k) 0 ∅ 0)
    ∗ (bigSep Finset.univ fun x : Fin 3 × Fin 8 => cred (tallyAt (cell c (kRecv x)) () NC))
    ∗ (cred (tallyAt (cell c (kARecv 1)) () NA) ∗ cred (tallyAt (cell c (kARecv 2)) () NA) ∗ cred (tallyAt (cell c (kARecv 3)) () NA))
    ∗ partAny (F := F) c main_v9_0 (xRow c) ∗ dutyTok ER (cell c kCopy) 0 0
    ∗ (bun c 1 ∗ bun c 2 ∗ bun c 3)
    ∗ partAny (F := F) c cc0_scratch3 (aSet 0)
    ∗ (∃ f : Buf (Elt F) ((c : Thread nD τ).loc cc0_scratch2), ((c : Thread nD τ).loc cc0_scratch2) ↦{fullShare} f))

abbrev OW (O : CellTallies nD τ sig Unit) : sProp 𝕄 := iprop(∃ W, owes (c : Thread nD τ) O W)

/-- Before the copy, and after the first two maxima are sent. -/
def Fin0 : sProp 𝕄 :=
  iprop(Pers m K ∗ smPt c (gl m c) ∗ part c cc0_scratch0 (ySlab 3) (Yb m c)
    ∗ (bigSep Finset.univ fun x : Fin 3 × Fin 8 => cred (tallyAt (cell c (kSend x)) () NC)) ∗ Keep c ∗ tblPt c ∗ OW c (owedA c))

def Fin1 : sProp 𝕄 :=
  iprop(Pers m K ∗ smPt c (gl m c)
    ∗ (bigSep Finset.univ fun x : Fin 3 × Fin 8 => cred (tallyAt (cell c (kSend x)) () NC))
    ∗ (bigSep Finset.univ fun k : CK => atPos ER (cell c k) 0 ∅ 0)
    ∗ (bigSep Finset.univ fun x : Fin 3 × Fin 8 => cred (tallyAt (cell c (kRecv x)) () NC))
    ∗ (cred (tallyAt (cell c (kARecv 1)) () NA) ∗ cred (tallyAt (cell c (kARecv 2)) () NA) ∗ cred (tallyAt (cell c (kARecv 3)) () NA))
    ∗ cred (tallyAt (cell c kCopy) () NL) ∗ cred (tallyAt (cell c (kASend 1)) () NA) ∗ cred (tallyAt (cell c (kASend 2)) () NA)
    ∗ bun c 3 ∗ (((c : Thread nD τ).loc cc0_scratch2) ↦{shr 3} Tile m c)
    ∗ partAny (F := F) c cc0_scratch3 (aSet 0) ∗ tblPt c ∗ OW c (0 + tallyAt (cell (c + dv 3) (kARecv 3)) () NA))

variable {m K c}
variable {i : grid0.Coords} {h2 : (Memref.whole main_v8).IsWhole} {a3 : Memref sig .tc .vmem S1024x4096 .bf16} {h3 : a3.IsWhole}
  {a4 : Memref sig .tc .vmem S4096x256 .bf16} {h4 : a4.IsWhole} {h5 : xM.IsWhole} {a6 : Memref sig .tc .vmem S8x128 .f32} {h6 : a6.IsWhole}
  {h7 : yM.IsWhole} {h8 : sM.IsWhole} {h9 : tM.IsWhole} {h10 : aM.IsWhole} {v2 w : BitVec 32} {k0_h3 : k0_cond3 i = 1#1}

theorem owedA_eq : owedA c = (tallyAt (cell (c + dv 3) (kARecv 3)) () NA + tallyAt (cell (c + dv 2) (kARecv 2)) () NA)
    + tallyAt (cell (c + dv 1) (kARecv 1)) () NA := by
  unfold owedA; rw [add_comm (tallyAt (cell (c + 1) (kARecv 1)) () NA)]
  rw [add_comm (tallyAt (cell (c + 2) (kARecv 2)) () NA)]

set_option maxHeartbeats 2000000 in
theorem run_part1 (hi : (i 0).val = 3) {R : sProp 𝕄} {Q : (Σ' (v46 : BitVec 32) (v56 : BitVec 32), BitVec 32) → sProp 𝕄}
    (h : ∀ v, iprop(Fin1 m K c ∗ R) ⊢ Q v) :
    iprop(Fin0 m K c ∗ R) ⊢ WP c (k0_part1 i (Memref.whole main_v8) h2 a3 h3 a4 h4 xM h5 a6 h6 yM h7 sM h8 tM h9 aM h10
      cc0_scratch4 cc0_scratch5 cc0_scratch6 cc0_scratch7 cc0_scratch8 c v2 k0_h3) Q := by
  rw [Gen.k0_part1_eq_skeleton]
  unfold Gen.k0_part1_skel Fin0 Keep
  dsimp only
  iintro ⟨⟨#HP, Hsm, Hy, Hcs, ⟨Hat, Hcr, Hca, Hx, Htc, ⟨Hb1, Hb2, Hb3⟩, Ha0, ⟨%ft, Hti⟩⟩, Ht, ⟨%W, HO⟩⟩, HR⟩
  iapply bind_wp
  iapply (copy_own (m := m) (K := K) (by rw [Gen.k0_off8_eq, hi]; rfl) (Gen.k0_off7_eq c) rfl) $$ [Hy Hx Htc]
  · isplitr; · iexact HP
    isplitl [Hy]; · iexact Hy
    isplitl [Hx] <;> iassumption
  iintro Hcc
  iapply bind_wp
  iapply sm_load $$ Hsm
  iintro Hsm
  iapply bind_wp
  iapply tile_load $$ Hti
  iintro %v Hti
  iapply bind_wp
  iapply tile_store $$ Hti
  iintro Hti
  ihave Hti' := (show _ ⊢ _ from (tile_shares c (Tile m c)).1) $$ [Hti]
  · iexact Hti
  icases Hti' with ⟨Hs1, Hs2, Hs3⟩
  iapply bind_wp
  rw [owedA_eq]
  iapply (send_max (m := m) (K := K) 1 (by decide) rfl (Fin.ext (Gen.k0_dev5_eq c)) rfl rfl) $$ [Hb1 Hs1 HO]
  · isplitr; · iexact HP
    isplitl [Hb1]; · iexact Hb1
    isplitl [Hs1]; · iexact Hs1
    iexact HO
  iintro ⟨Hc1, HO⟩
  iapply bind_wp
  iapply (send_max (m := m) (K := K) 2 (by decide) rfl (Fin.ext (Gen.k0_dev6_eq c)) rfl rfl) $$ [Hb2 Hs2 HO]
  · isplitr; · iexact HP
    isplitl [Hb2]; · iexact Hb2
    isplitl [Hs2]; · iexact Hs2
    iexact HO
  iintro ⟨Hc2, HO⟩
  iapply pure_wp
  iapply (h _)
  isplitr [HR]
  · unfold Fin1
    isplitr; · iexact HP
    isplitl [Hsm]; · iexact Hsm
    isplitl [Hcs]; · iexact Hcs
    isplitl [Hat]; · iexact Hat
    isplitl [Hcr]; · iexact Hcr
    isplitl [Hca]; · iexact Hca
    isplitl [Hcc]; · iexact Hcc
    isplitl [Hc1]; · iexact Hc1
    isplitl [Hc2]; · iexact Hc2
    isplitl [Hb3]; · iexact Hb3
    isplitl [Hs3]; · iexact Hs3
    isplitl [Ha0]; · iexact Ha0
    isplitl [Ht]; · iexact Ht
    rw [zero_add]
    iexists W; iexact HO
  iexact HR

/-- What the last point keeps beside the waits. -/
abbrev Aside (m : (ℓ : Loc nD τ sig) → Buf (Elt F) ℓ) (c : Dev nD) (R : sProp 𝕄) : sProp 𝕄 :=
  iprop(smPt c (gl m c) ∗ partAny (F := F) c cc0_scratch3 (aSet 0) ∗ R)

theorem send_third {R : sProp 𝕄} {Q : PUnit → sProp 𝕄} {off : Fin 3 → ℕ}
    {h : ∀ a, off a + S1x8x128.size a ≤ S4x8x128.size a} (e : off = ![(3 : Fin 4).val, 0, 0]) {p : Dev nD} (hp : p = c + dv 3)
    {sS sR : DmaSem sig} (hs : SemLoc.dma sS = osem0 (kASend 3)) (hr : SemLoc.dma sR = osem0 (kARecv 3))
    {h1 : tM.view.WordExact} {h2 : (aSl off h).view.WordExact} {h4 : (aSl off h).view.ref.isScScratch = false}
    {h3 : DmaTarget.Typed .vmem (.dma sR) (.remote (Dev.tc p) (aSl off h) (.dma sS) h4)}
    (hQ : iprop(St m K c 0 ∗ Aside m c R) ⊢ Q ⟨⟩) :
    iprop(Fin1 m K c ∗ R) ⊢ WP c (Prog.lift (.enqueueDma tM (.remote (Dev.tc p) (aSl off h) (.dma sS) h4) (.dma sR) h1 h2 h3)) Q := by
  unfold Fin1
  iintro ⟨⟨#HP, Hsm, Hcs, Hat, Hcr, ⟨Hr1, Hr2, Hr3⟩, Hcc, Hc1, Hc2, Hb3, Hs3, Ha0, Ht, ⟨%W, HO⟩⟩, HR⟩
  iapply (send_max (m := m) (K := K) 3 (by decide) e hp hs hr) $$ [Hb3 Hs3 HO]
  · isplitr; · iexact HP
    isplitl [Hb3]; · iexact Hb3
    isplitl [Hs3]; · iexact Hs3
    iexact HO
  iintro ⟨Hc3, HO⟩
  iapply hQ
  unfold Pers St
  icases HP with ⟨#Hrec, #_⟩
  isplitr [Hsm Ha0 HR]
  · isplitr; · iexact Hrec
    isplitr [Ht HO]
    · iapply (waits_zero m c)
      isplitl [Hat]; · iexact Hat
      rw [creds_split]
      isplitl [Hcc]; · iexact Hcc
      isplitl [Hcs Hcr]; · isplitl [Hcs] <;> iassumption
      isplitl [Hc1 Hc2 Hc3]
      · isplitr; · iempintro
        isplitl [Hc1]; · iexact Hc1
        isplitl [Hc2]; · iexact Hc2
        iexact Hc3
      · isplitr; · iempintro
        isplitl [Hr1]; · iexact Hr1
        isplitl [Hr2]; · iexact Hr2
        iexact Hr3
    isplitl [Ht]; · iexact Ht
    iexists W; iexact HO
  unfold Aside
  isplitl [Hsm]; · iexact Hsm
  isplitl [Ha0]; · iexact Ha0
  iexact HR

theorem run_part2 {R : sProp 𝕄} {Q : (Σ' (v66 : BitVec 32), BitVec 32) → sProp 𝕄}
    (h : ∀ v, iprop(St m K c 3 ∗ Aside m c R) ⊢ Q v) :
    iprop(Fin1 m K c ∗ R) ⊢ WP c (k0_part2 i (Memref.whole main_v8) h2 a3 h3 a4 h4 xM h5 a6 h6 yM h7 sM h8 tM h9 aM h10
      cc0_scratch4 cc0_scratch5 cc0_scratch6 cc0_scratch7 cc0_scratch8 c v2 k0_h3 w) Q := by
  rw [Gen.k0_part2_eq_skeleton]
  unfold Gen.k0_part2_skel
  dsimp only
  refine bnd ?_
  refine send_third rfl (Fin.ext (Gen.k0_dev7_eq c)) rfl rfl ?_
  refine bnd ?_; refine wait_at (by decide) rfl rfl rfl ?_
  refine bnd ?_; refine tbl_step fun _ => ?_
  refine bnd ?_; refine wait_at (by decide) rfl rfl rfl ?_
  refine bnd ?_; refine tbl_step fun _ => ?_
  refine bnd ?_; refine wait_at (by decide) rfl rfl rfl ?_
  exact ret' (h _)

/-- Reading a received maximum. -/
theorem max_load {Q : Vec F S1x1x1 .f32 → sProp 𝕄} {f : (⟨S4x8x128, .f32⟩ : BufTy).Contents (Elt F)}
    (hf : ∀ i : S4x8x128.Idx, (i 0).val ≠ 0 → f i = AA m c i) (d : Fin 4) (hd : d.val ≠ 0) {off : Fin 3 → ℕ} (ho : off = ![d.val, 0, 0])
    {hb : ∀ a, off a + S1x1x1.size a ≤ S4x8x128.size a} {h1} :
    iprop(((c : Thread nD τ).loc cc0_scratch3) ↦{fullShare} (show Buf (Elt F) ((c : Thread nD τ).loc cc0_scratch3) from f))
    ⊢ iprop(((((c : Thread nD τ).loc cc0_scratch3) ↦{fullShare} (show Buf (Elt F) ((c : Thread nD τ).loc cc0_scratch3) from f)) -∗ Q (aaRd m c d))
      -∗ WP c (Prog.lift (.load aM (Rect.unit (s := S4x8x128) off S1x1x1.size hb).toLoadRect h1)) Q) := by
  subst ho
  rw [lift_wp]
  have e : aM.view.readAt (Elt F) (Rect.unit (s := S4x8x128) ![d.val, 0, 0] S1x1x1.size hb).toLoadRect f = aaRd m c d := by
    funext x
    have hx : (Rect.unit (s := S4x8x128) ![d.val, 0, 0] S1x1x1.size hb).emb x = ix3 d 0 0 := by
      funext k
      apply Fin.ext
      fin_cases k
      · show d.val + 1 * (x 0).val = d.val; have : (x 0).val < 1 := (x 0).isLt; omega
      · show 0 + 1 * (x 1).val = 0; have : (x 1).val < 1 := (x 1).isLt; omega
      · show 0 + 1 * (x 2).val = 0; have : (x 2).val < 1 := (x 2).isLt; omega
    show f ((Rect.unit (s := S4x8x128) ![d.val, 0, 0] S1x1x1.size hb).emb x) = _
    rw [hx]
    exact hf _ hd
  iintro Hs Hk
  iapply (wp_load 𝒱₀ (c : Thread nD τ) none Set.univ (m := aM) (S := Finset.univ) (q := fullShare) (f := f) (Finset.subset_univ _)) $$ [Hs]
  · iexact Hs
  iintro Hs
  rw [wp_ret]
  imodintro
  rw [e]
  iapply Hk
  iexact Hs

/-- What a device holds when all is received and every cell closed. -/
def Fin2 (m : (ℓ : Loc nD τ sig) → Buf (Elt F) ℓ) (c : Dev nD) : sProp 𝕄 :=
  iprop((((c : Thread nD τ).loc main_v9_0) ↦{fullShare} Yx m c) ∗ (((c : Thread nD τ).loc cc0_scratch0) ↦{fullShare} Yb m c)
    ∗ (((c : Thread nD τ).loc cc0_scratch2) ↦{fullShare} Tile m c)
    ∗ (∃ f : (⟨S4x8x128, .f32⟩ : BufTy).Contents (Elt F), ⌜∀ i : S4x8x128.Idx, (i 0).val ≠ 0 → f i = AA m c i⌝
      ∗ ((c : Thread nD τ).loc cc0_scratch3) ↦{fullShare} (show Buf (Elt F) ((c : Thread nD τ).loc cc0_scratch3) from f))
    ∗ smPt c (gl m c) ∗ tblPt c ∗ (bigSep Finset.univ fun k : CK => semVal (cell c k) 0) ∗ OW c 0)

theorem close_all {R : sProp 𝕄} : iprop(St m K c 55 ∗ Aside m c R) ⊢ iprop(|={Set.univ}=> (Fin2 m c ∗ R)) := by
  unfold St Fin2
  iintro ⟨⟨#Hrec, Hw, Ht, HO⟩, Hsm, Ha0, HR⟩
  imod (waits_close m K c) $$ [Hw] with ⟨Hv, Hp⟩
  · isplitr; · iexact Hrec
    iexact Hw
  ihave Hp' := (Entails.of_eq (pays_split m c)) $$ Hp
  icases Hp' with ⟨⟨Hx, Hy⟩, ⟨Hys, Hxs⟩, ⟨-, Hs1, Hs2, Hs3⟩, ⟨-, Ha1, Ha2, Ha3⟩⟩
  imodintro
  isplitr [HR]
  · isplitl [Hx Hxs]
    · iapply (yx_join m c); isplitl [Hx] <;> iassumption
    isplitl [Hy Hys]
    · iapply (yb_join m c); isplitl [Hy] <;> iassumption
    isplitl [Hs1 Hs2 Hs3]
    · iapply (tile_shares c (Tile m c)).2
      isplitl [Hs1]; · iexact Hs1
      isplitl [Hs2] <;> iassumption
    isplitl [Ha0 Ha1 Ha2 Ha3]
    · iapply (aa_join m c)
      isplitl [Ha0]; · iexact Ha0
      isplitl [Ha1]; · iexact Ha1
      isplitl [Ha2] <;> iassumption
    isplitl [Hsm]; · iexact Hsm
    isplitl [Ht]; · iexact Ht
    isplitl [Hv] <;> iassumption
  iexact HR

theorem run_part18 (hi : (i 0).val = 3) {R : sProp 𝕄} {Q : F .f32 → sProp 𝕄}
    (h : iprop(Fin2 m c ∗ R) ⊢ Q (Gen.k0_pay3 (gl m c) (aaRd m c 1) (aaRd m c 2))) :
    iprop(Fin0 m K c ∗ R) ⊢ WP c (k0_part18 i (Memref.whole main_v8) h2 a3 h3 a4 h4 xM h5 a6 h6 yM h7 sM h8 tM h9 aM h10
      cc0_scratch4 cc0_scratch5 cc0_scratch6 cc0_scratch7 cc0_scratch8 c v2 k0_h3) Q := by
  rw [Gen.k0_part18_eq_skeleton]
  unfold Gen.k0_part18_skel
  dsimp only
  refine bnd ?_; refine run_part1 hi fun _ => ?_
  refine bnd ?_; refine run_part2 fun _ => ?_
  refine bnd ?_; refine waits_part3 ?_
  refine bnd ?_; refine waits_part4 ?_
  refine bnd ?_; refine waits_part5 ?_
  refine bnd ?_; refine waits_part6 ?_
  refine bnd ?_; refine waits_part7 ?_
  refine bnd ?_; refine waits_part8 ?_
  refine bnd ?_; refine waits_part9 fun _ => ?_
  refine bnd ?_; refine waits_part10 fun _ => ?_
  refine bnd ?_; refine waits_part11 fun _ => ?_
  refine bnd ?_; refine waits_part12 fun _ => ?_
  refine bnd ?_; refine waits_part13 fun _ => ?_
  refine bnd ?_; refine waits_part14 fun _ => ?_
  refine bnd ?_; refine waits_part15 fun _ => ?_
  refine bnd ?_; refine waits_part16 fun _ => ?_
  refine bnd ?_; refine waits_part17 ?_
  refine bnd ?_; refine wait_at (by decide) rfl rfl rfl ?_
  refine bnd ?_; refine wait_at (by decide) rfl rfl rfl ?_
  refine bnd ?_; refine wait_at (by decide) rfl rfl rfl ?_
  refine close_all.trans ?_
  unfold Fin2
  iintro >⟨⟨Hx, Hy, Ht, ⟨%f, %hf, Ha⟩, Hsm, Htb, Hv, HO⟩, HR⟩
  iapply bind_wp
  iapply sm_load $$ Hsm
  iintro Hsm
  iapply bind_wp
  iapply (max_load (m := m) hf 1 (by decide) rfl) $$ [Ha]
  · iexact Ha
  iintro Ha
  iapply bind_wp
  iapply (max_load (m := m) hf 2 (by decide) rfl) $$ [Ha]
  · iexact Ha
  iintro Ha
  iapply pure_wp
  iapply h
  unfold Fin2
  isplitr [HR]
  · isplitl [Hx]; · iexact Hx
    isplitl [Hy]; · iexact Hy
    isplitl [Ht]; · iexact Ht
    isplitl [Ha]
    · iexists f; isplitr; · ipureintro; exact hf
      iexact Ha
    isplitl [Hsm]; · iexact Hsm
    isplitl [Htb]; · iexact Htb
    isplitl [Hv] <;> iassumption
  iexact HR

end Cert.KernelIdeal
end
-- ==== Proof.Barrier.lean ====
/-
  The barrier at the first point: each device signals the other three, giving them its rows and its slot to write into, and waits for
  the three signals that give it theirs.
-/
module

public import proofs.«01_k».proof.Proof.Finish

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The positions, rights and credits of the transfers. -/
def Gear : sProp 𝕄 :=
  iprop((bigSep Finset.univ fun k : CK => atPos ER (cell c k) 0 ∅ 0)
    ∗ dutyTok ER (cell c kCopy) 0 0
    ∗ (bigSep Finset.univ fun x : Fin 3 × Fin 8 => iprop(dutyTok ER (cell c (kSend x)) 0 0 ∗ dutyTok ER (cell (peer c x.1.castSucc) (kRecv x)) 0 0))
    ∗ ((dutyTok ER (cell c (kASend 1)) 0 0 ∗ dutyTok ER (cell (c + dv 1) (kARecv 1)) 0 0)
      ∗ (dutyTok ER (cell c (kASend 2)) 0 0 ∗ dutyTok ER (cell (c + dv 2) (kARecv 2)) 0 0)
      ∗ (dutyTok ER (cell c (kASend 3)) 0 0 ∗ dutyTok ER (cell (c + dv 3) (kARecv 3)) 0 0))
    ∗ (bigSep Finset.univ fun x : Fin 3 × Fin 8 => cred (tallyAt (cell c (kRecv x)) () NC))
    ∗ (cred (tallyAt (cell c (kARecv 1)) () NA) ∗ cred (tallyAt (cell c (kARecv 2)) () NA) ∗ cred (tallyAt (cell c (kARecv 3)) () NA)))

/-- Those of the barrier. -/
def BarGear : sProp 𝕄 :=
  iprop(atPos ER (barCell c) 0 ∅ 0 ∗ cred (tallyAt (barCell c) () 3)
    ∗ dutyTok ER (barCell (c + dv 1)) 0 c ∗ dutyTok ER (barCell (c + dv 2)) 0 c ∗ dutyTok ER (barCell (c + dv 3)) 0 c)

abbrev anyAt (c : Dev nD) (b : Ref sig .tc) : sProp 𝕄 :=
  iprop(∃ f : Buf (Elt F) ((c : Thread nD τ).loc b), ((c : Thread nD τ).loc b) ↦{fullShare} f)

/-- Before the first point. -/
def Entry : sProp 𝕄 :=
  iprop(recs m K ∗ reachedAll c ∗ levAts L lv ∗ Gear c ∗ BarGear c ∗ anyAt (F := F) c main_v9_0 ∗ anyAt (F := F) c cc0_scratch3
    ∗ anyAt (F := F) c cc0_scratch2 ∗ OW c (O₀ c))

/-- After the barrier. -/
def Met : sProp 𝕄 :=
  iprop(Pers m K ∗ Keep c ∗ (bigSep Finset.univ (tkt c)) ∗ OW c (owedC c 0 + owedA c) ∗ semVal (barCell c) 0)

variable {m K c}

theorem bar_signal {Q : PUnit → sProp 𝕄} (d : Fin 4) (hd : d ≠ 0) {O O' : CellTallies nD τ sig Unit} {W : Idealize.ShloMosaic.Waits sig Unit}
    {p : Dev nD} (hp : p = c + dv d) (hO : O' = O + tallyAt (barCell (c + dv d)) () 1) :
    iprop(recs m K ∗ dutyTok ER (barCell (c + dv d)) 0 c ∗ barPay (c + dv d) c ∗ owes (c : Thread nD τ) O' W)
    ⊢ iprop((owes (c : Thread nD τ) O W -∗ Q ⟨⟩)
      -∗ WP c (semSignalWord p (SemArray.scalar (sig.barrier 0 rfl) : Sems sig S_).sem 1#32) Q) := by
  subst hp hO
  unfold WP semSignalWord
  iintro ⟨#Hr, Ht, Hp, HO⟩ Hk
  iapply (Rounds.wp_signal 𝒱₀ ER (Rd m) (c : Thread nD τ) none (dst := ((c + dv d : Dev nD) : Thread nD τ)) (sem := barrier0) (r := 0) (d := c) (k' := 1)
    (κ := K (barCell (c + dv d)))
    (by rw [duties_bar m (c + dv d)]; exact Finset.mem_erase.mpr ⟨(by decide : ∀ (c : Dev nD) (d : Fin 4), d ≠ 0 → c ≠ c + dv d) c d hd, Finset.mem_univ _⟩)
    (amount_bar m (c + dv d) c) () O rfl (W := W)) $$ [Ht Hp HO]
  · isplitr; · iapply (recs_bar m K (c + dv d)); iexact Hr
    isplitl [HO]; · iexact HO
    isplitl [Ht]; · iexact Ht
    isplitl [Hp]; · iapply (Entails.of_eq (payload_bar m (c + dv d) c).symm); iexact Hp
    iapply (recs_reached m K (c + dv d)); iexact Hr
  iintro HO
  rw [wp_ret]
  imodintro
  iapply Hk
  iexact HO

theorem bar_wait {Q : PUnit → sProp 𝕄} {W : Idealize.ShloMosaic.Waits sig Unit} :
    iprop(recs m K ∗ levAts L lv ∗ atPos ER (barCell c) 0 ∅ 0 ∗ cred (tallyAt (barCell c) () 3) ∗ owes (c : Thread nD τ) (owedC c 0 + owedA c) W)
    ⊢ iprop((OW c (owedC c 0 + owedA c) ∗ semVal (barCell c) 0 ∗ (barPay c (c + 1) ∗ barPay c (c + 2) ∗ barPay c (c + 3)) -∗ Q ⟨⟩)
      -∗ WP c (semWaitWord (SemArray.scalar (sig.barrier 0 rfl) : Sems sig S_).sem 3#32) Q) := by
  unfold WP semWaitWord
  iintro ⟨#Hr, #Hl, Hat, Hc, HO⟩ Hk
  iapply (Rounds.wp_wait_rest_token 𝒱₀ ER (Rd m) (c : Thread nD τ) none (κ := K (barCell c)) (sm := SemLoc.reg barrier0) (k' := 3)
      (wpE_semWait_eq 𝒱₀ (c : Thread nD τ) none Set.univ) (Set.mem_univ _) () (O := owedC c 0 + owedA c) (W := W) (R := 0) (m := 0) (T := ∅)
      (by rw [expect_bar m c])) $$ [Hc HO Hat]
  · isplitr; · iapply (recs_bar m K c); iexact Hr
    isplitl [Hc]; · iexact Hc
    isplitl [HO]; · iexact HO
    isplitr; · iapply (mayWait_bar c); iexact Hl
    iexact Hat
  iintro ⟨HO, Hat, -, Hpay⟩
  rw [wp_ret]
  imod (Rounds.cell_close (E := ER) (Rd := Rd m) (g := barCell c) (κ := K (barCell c)) (Set.mem_univ _) (fun h => h) (duties_later m (barCell c))) $$ [Hat] with Hv
  · isplitr; · iapply (recs_bar m K c); iexact Hr
    iexact Hat
  imodintro
  iapply Hk
  isplitl [HO]; · iexists _; iexact HO
  isplitl [Hv]; · iexact Hv
  iapply (Entails.of_eq (rest_bar m c)); iexact Hpay

theorem bar_gives : iprop(reachedAll (F := F) c ∗ anyAt (F := F) c main_v9_0 ∗ anyAt (F := F) c cc0_scratch3)
    ⊢ iprop((barPay (c + dv 1) c ∗ barPay (c + dv 2) c ∗ barPay (c + dv 3) c) ∗ partAny (F := F) c main_v9_0 (xRow c) ∗ partAny (F := F) c cc0_scratch3 (aSet 0)) := by
  have h1 : (show Fin 4 from c - (c + dv 1)) = 3 := by revert c; decide
  have h2 : (show Fin 4 from c - (c + dv 2)) = 2 := by revert c; decide
  have h3 : (show Fin 4 from c - (c + dv 3)) = 1 := by revert c; decide
  have hx : ∀ (s : Fin 4) (f : Buf (Elt F) ((c : Thread nD τ).loc main_v9_0)), part c main_v9_0 (xRow s) f
      ⊢ bigSep Finset.univ fun q : Fin 8 => partAny (F := F) c main_v9_0 (xSet s q) := fun s f => by
    rw [xrow_eq]
    exact bigSep_mono fun q _ => exists_intro (Φ := fun f : Buf (Elt F) ((c : Thread nD τ).loc main_v9_0) => (part c main_v9_0 (xSet s q) f : sProp 𝕄)) f
  unfold barPay
  rw [h1, h2, h3]
  iintro ⟨#HR, ⟨%f, Hf⟩, ⟨%g, Hg⟩⟩
  ihave Hf' := (Entails.of_eq (x_rows c f)) $$ Hf
  ihave Hg' := (Entails.of_eq (a_slots c g)) $$ Hg
  icases Hf' with ⟨F0, F1, F2, F3⟩
  icases Hg' with ⟨G0, G1, G2, G3⟩
  isplitr [F0 G0]
  · isplitl [F1 G3]
    · isplitl [F1]; · iapply (hx (c + 1) f); iexact F1
      isplitl [G3]; · iexists g; iexact G3
      iexact HR
    isplitl [F2 G2]
    · isplitl [F2]; · iapply (hx (c + 2) f); iexact F2
      isplitl [G2]; · iexists g; iexact G2
      iexact HR
    isplitl [F3]; · iapply (hx (c + 3) f); iexact F3
    isplitl [G1]; · iexists g; iexact G1
    iexact HR
  isplitl [F0]
  · iexists f; iexact F0
  iexists g; iexact G0

theorem bar_takes : iprop(recs m K ∗ reachedAll (F := F) c ∗ Gear c ∗ (barPay c (c + 1) ∗ barPay c (c + 2) ∗ barPay c (c + 3))
      ∗ partAny (F := F) c main_v9_0 (xRow c) ∗ partAny (F := F) c cc0_scratch3 (aSet 0) ∗ anyAt (F := F) c cc0_scratch2)
    ⊢ iprop(Pers m K ∗ Keep c ∗ bigSep Finset.univ (tkt c)) := by
  have h1 : (show Fin 4 from c + 1 - c) = 1 := by revert c; decide
  have h2 : (show Fin 4 from c + 2 - c) = 2 := by revert c; decide
  have h3 : (show Fin 4 from c + 3 - c) = 3 := by revert c; decide
  have hr : iprop(reachedAll (F := F) c ∗ reachedAll (c + 1) ∗ reachedAll (c + 2) ∗ reachedAll (c + 3)) ⊢ bigSep Finset.univ fun p : Dev nD => reachedAll (F := F) p := by
    rw [bigSep_univ_eq_bigSepL [c, c + 1, c + 2, c + 3] ((by decide : ∀ c : Fin 4, Finset.univ = [c, c + 1, c + 2, c + 3].toFinset) c)
      ((by decide : ∀ c : Fin 4, [c, c + 1, c + 2, c + 3].Nodup) c)]
    exact .rfl
  have ht : iprop((bigSep Finset.univ fun x : Fin 3 × Fin 8 => iprop(dutyTok ER (cell c (kSend x)) 0 0 ∗ dutyTok ER (cell (peer c x.1.castSucc) (kRecv x)) 0 0))
      ∗ (bigSep Finset.univ fun q : Fin 8 => partAny (F := F) (c + 1) main_v9_0 (xSet c q))
      ∗ (bigSep Finset.univ fun q : Fin 8 => partAny (F := F) (c + 2) main_v9_0 (xSet c q))
      ∗ (bigSep Finset.univ fun q : Fin 8 => partAny (F := F) (c + 3) main_v9_0 (xSet c q)))
      ⊢ bigSep Finset.univ (tkt (F := F) c) := by
    have e : (bigSep Finset.univ fun x : Fin 3 × Fin 8 => partAny (F := F) (peer c x.1.castSucc) main_v9_0 (xSet c x.2))
        = iprop((bigSep Finset.univ fun q : Fin 8 => partAny (F := F) (c + 2) main_v9_0 (xSet c q))
          ∗ (bigSep Finset.univ fun q : Fin 8 => partAny (F := F) (c + 3) main_v9_0 (xSet c q))
          ∗ (bigSep Finset.univ fun q : Fin 8 => partAny (F := F) (c + 1) main_v9_0 (xSet c q))) := by
      rw [bigSep_univ_prod, sep_three]
      rfl
    unfold tkt
    rw [bigSep_sep' (Φ := fun x : Fin 3 × Fin 8 => partAny (F := F) (peer c x.1.castSucc) main_v9_0 (xSet c x.2)), e]
    iintro ⟨Ht, H1, H2, H3⟩
    isplitr [Ht]
    · isplitl [H2]; · iexact H2
      isplitl [H3] <;> iassumption
    iexact Ht
  unfold barPay Gear
  rw [h1, h2, h3]
  iintro ⟨#HR, #Hc, ⟨Hat, Htc, Hts, ⟨⟨T1, U1⟩, ⟨T2, U2⟩, ⟨T3, U3⟩⟩, Hcr, Hca⟩, ⟨⟨X1, A1, #R1⟩, ⟨X2, A2, #R2⟩, ⟨X3, A3, #R3⟩⟩, Hx, Ha, Ht2⟩
  isplitr
  · unfold Pers
    isplitr; · iexact HR
    iapply hr
    isplitr; · iexact Hc
    isplitr; · iexact R1
    isplitr; · iexact R2
    iexact R3
  isplitr [Hts X1 X2 X3]
  · unfold Keep bun
    isplitl [Hat]; · iexact Hat
    isplitl [Hcr]; · iexact Hcr
    isplitl [Hca]; · iexact Hca
    isplitl [Hx]; · iexact Hx
    isplitl [Htc]; · iexact Htc
    isplitl [T1 U1 A1 T2 U2 A2 T3 U3 A3]
    · isplitl [T1 U1 A1]
      · isplitl [T1]; · iexact T1
        isplitl [U1] <;> iassumption
      isplitl [T2 U2 A2]
      · isplitl [T2]; · iexact T2
        isplitl [U2] <;> iassumption
      isplitl [T3]; · iexact T3
      isplitl [U3] <;> iassumption
    isplitl [Ha]; · iexact Ha
    iexact Ht2
  iapply ht
  isplitl [Hts]; · iexact Hts
  isplitl [X1]; · iexact X1
  isplitl [X2] <;> iassumption

theorem O₀_eq : O₀ c = (((owedC c 0 + owedA c) + tallyAt (barCell (c + dv 3)) () 1) + tallyAt (barCell (c + dv 2)) () 1) + tallyAt (barCell (c + dv 1)) () 1 := by
  unfold O₀ owedB
  show tallyAt (barCell (c + dv 1)) () 1 + (tallyAt (barCell (c + dv 2)) () 1 + tallyAt (barCell (c + dv 3)) () 1) + (owedC c 0 + owedA c) = _
  rw [add_comm _ (owedC c 0 + owedA c), add_comm (tallyAt (barCell (c + dv 1)) () 1), add_comm (tallyAt (barCell (c + dv 2)) () 1),
    ← add_assoc, ← add_assoc]

end Cert.KernelIdeal
end
-- ==== Proof.Point.lean ====
/-
  One point of the fused kernel: the product of the point's piece, its maximum, its store, and its send.
-/
module

public import proofs.«01_k».proof.Proof.Barrier

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- A piece to compute, with what its send needs; a piece computed. -/
def ahead (x : Fin 4 × Fin 8) : sProp 𝕄 :=
  iprop(partAny (F := F) c cc0_scratch0 (ySet x.1 x.2) ∗ if h : x.1.val < 3 then tkt (F := F) c (⟨x.1.val, h⟩, x.2) else iprop(emp))
def behind (x : Fin 4 × Fin 8) : sProp 𝕄 :=
  if h : x.1.val < 3 then cred (tallyAt (cell c (kSend (⟨x.1.val, h⟩, x.2))) () NC) else part c cc0_scratch0 (ySet x.1 x.2) (Yb m c)
def pieceAt (t : ℕ) (x : Fin 4 × Fin 8) : sProp 𝕄 := if t ≤ 8 * x.1.val + x.2.val then ahead c x else behind m c x
def Pieces (t : ℕ) : sProp 𝕄 := bigSep Finset.univ (pieceAt m c t)

/-- Before point `t`, once the barrier is passed. -/
def Mid (t : ℕ) : sProp 𝕄 :=
  iprop(Pers m K ∗ smPt c (amx m c t) ∗ Pieces m c t ∗ Keep c ∗ tblPt c ∗ OW c (owedC c t + owedA c) ∗ semVal (barCell c) 0)

variable {m K c}

theorem pieces_take (x : Fin 4 × Fin 8) :
    Pieces m c (8 * x.1.val + x.2.val) ⊢ iprop(ahead c x ∗ (behind m c x -∗ Pieces m c (8 * x.1.val + x.2.val + 1))) := by
  have e0 : pieceAt m c (8 * x.1.val + x.2.val) x = ahead c x := if_pos le_rfl
  have e1 : pieceAt m c (8 * x.1.val + x.2.val + 1) x = behind m c x := if_neg (by omega)
  have h : Pieces m c (8 * x.1.val + x.2.val) ⊢ iprop(pieceAt m c (8 * x.1.val + x.2.val) x ∗ (pieceAt m c (8 * x.1.val + x.2.val + 1) x -∗ Pieces m c (8 * x.1.val + x.2.val + 1))) := by
    unfold Pieces
    refine bigSep_univ_update x fun y hy => ?_
    have hne : 8 * y.1.val + y.2.val ≠ 8 * x.1.val + x.2.val := fun h => hy <| by
      have h1 := y.2.isLt; have h2 := x.2.isLt
      exact Prod.ext (Fin.ext (by omega)) (Fin.ext (by omega))
    unfold pieceAt
    by_cases h1 : 8 * x.1.val + x.2.val ≤ 8 * y.1.val + y.2.val
    · rw [if_pos h1, if_pos (by omega)]
    · rw [if_neg h1, if_neg (by omega)]
  rw [e0, e1] at h
  exact h

theorem pieces_zero : iprop(anyAt (F := F) c cc0_scratch0 ∗ bigSep Finset.univ (tkt (F := F) c)) ⊢ Pieces m c 0 := by
  have e : Pieces m c 0 = bigSep Finset.univ fun x : Fin 4 × Fin 8 => ahead (F := F) c x :=
    bigSep_congr fun x _ => if_pos (Nat.zero_le _)
  have e2 : ∀ f : Buf (Elt F) ((c : Thread nD τ).loc cc0_scratch0), ((((c : Thread nD τ).loc cc0_scratch0) ↦{fullShare} f) : sProp 𝕄)
      ⊢ bigSep Finset.univ fun x : Fin 4 × Fin 8 => partAny (F := F) c cc0_scratch0 (ySet x.1 x.2) := fun f => by
    have e1 : ((((c : Thread nD τ).loc cc0_scratch0) ↦{fullShare} f) : sProp 𝕄) = bigSep Finset.univ fun j : Fin 4 => part c cc0_scratch0 (ySlab j) f :=
      (congrArg (fun S : Finset S4x1024x2048.Idx => ((((c : Thread nD τ).loc cc0_scratch0) ↦[S]{fullShare} f) : sProp 𝕄)) univ_ySlab).trans
        (pointsTo_biUnion (ℓ := (c : Thread nD τ).loc cc0_scratch0) Finset.univ ySlab fun a ha b hb hab => ySlab_disj ha hb hab)
    have e2 : ∀ j : Fin 4, (part c cc0_scratch0 (ySlab j) f : sProp 𝕄) = bigSep Finset.univ fun q : Fin 8 => part c cc0_scratch0 (ySet j q) f := fun j =>
      (congrArg (fun S : Finset S4x1024x2048.Idx => ((((c : Thread nD τ).loc cc0_scratch0) ↦[S]{fullShare} f) : sProp 𝕄)) (ySlab_eq j)).trans
        (pointsTo_biUnion (ℓ := (c : Thread nD τ).loc cc0_scratch0) Finset.univ (ySet j) fun a ha b hb hab => ySet_disj j ha hb hab)
    rw [e1, bigSep_congr fun j _ => e2 j, bigSep_univ_prod]
    exact bigSep_mono fun j _ => bigSep_mono fun q _ =>
      exists_intro (Φ := fun f : Buf (Elt F) ((c : Thread nD τ).loc cc0_scratch0) => (part c cc0_scratch0 (ySet j q) f : sProp 𝕄)) f
  have e3 : bigSep Finset.univ (tkt (F := F) c)
      ⊢ bigSep Finset.univ fun x : Fin 4 × Fin 8 => (if h : x.1.val < 3 then tkt (F := F) c (⟨x.1.val, h⟩, x.2) else iprop(emp)) := by
    rw [bigSep_univ_prod, bigSep_univ_prod, sep_four, sep_three]
    have hz : (bigSep Finset.univ fun q : Fin 8 => (if h : (3 : Fin 4).val < 3 then tkt (F := F) c (⟨(3 : Fin 4).val, h⟩, q) else iprop(emp)))
        = bigSep Finset.univ fun _ : Fin 8 => (iprop(emp) : sProp 𝕄) := bigSep_congr fun q _ => dif_neg (by decide)
    have hz' : (iprop(emp) : sProp 𝕄) ⊢ bigSep Finset.univ fun _ : Fin 8 => (iprop(emp) : sProp 𝕄) := bigSep_intro_persistent fun _ _ => .rfl
    iintro ⟨H0, H1, H2⟩
    isplitl [H0]; · iexact H0
    isplitl [H1]; · iexact H1
    isplitl [H2]; · iexact H2
    iapply (Entails.of_eq hz.symm)
    iapply hz'
    iempintro
  rw [e]
  unfold ahead
  rw [bigSep_sep']
  iintro ⟨⟨%f, Hf⟩, Ht⟩
  isplitl [Hf]
  · iapply (e2 f); iexact Hf
  iapply e3; iexact Ht

theorem pieces_end : Pieces m c 32 ⊢ iprop((bigSep Finset.univ fun x : Fin 3 × Fin 8 => cred (tallyAt (cell c (kSend x)) () NC))
    ∗ part c cc0_scratch0 (ySlab 3) (Yb m c)) := by
  have e : Pieces m c 32 = bigSep Finset.univ fun x : Fin 4 × Fin 8 => behind m c x :=
    bigSep_congr fun x _ => if_neg (by have := x.1.isLt; have := x.2.isLt; omega)
  have e2 : (part c cc0_scratch0 (ySlab 3) (Yb m c) : sProp 𝕄) = bigSep Finset.univ fun q : Fin 8 => part c cc0_scratch0 (ySet 3 q) (Yb m c) :=
    (congrArg (fun S : Finset S4x1024x2048.Idx => ((((c : Thread nD τ).loc cc0_scratch0) ↦[S]{fullShare} Yb m c) : sProp 𝕄)) (ySlab_eq 3)).trans
      (pointsTo_biUnion (ℓ := (c : Thread nD τ).loc cc0_scratch0) Finset.univ (ySet 3) fun a ha b hb hab => ySet_disj 3 ha hb hab)
  rw [e, bigSep_univ_prod, bigSep_univ_prod, sep_four, sep_three, e2]
  iintro ⟨H0, H1, H2, H3⟩
  isplitr [H3]
  · isplitl [H0]; · iexact H0
    isplitl [H1]; · iexact H1
    iexact H2
  iexact H3

/-! ## The steps -/

/-- A load of a whole window. -/
theorem stage_load {s : Shape} {e : EltTy} {a : Memref sig .tc .vmem s e} {Q : (s.Idx → Elt F e) → sProp 𝕄} {v : s.Idx → Elt F e}
    {off : Fin s.rank → ℕ} (ho : off = fun _ => 0) {h : ∀ k, off k + s.size k ≤ s.size k} {h1} :
    (owns (c : Thread nD τ) a fullShare v : sProp 𝕄)
    ⊢ iprop((owns (c : Thread nD τ) a fullShare v -∗ Q v) -∗ WP c (Prog.lift (.load a (Rect.unit (s := s) off s.size h).toLoadRect h1)) Q) := by
  rw [lift_wp]
  unfold owns
  iintro ⟨%f, %hf, Hs⟩ Hk
  iapply (wp_load 𝒱₀ (c : Thread nD τ) none Set.univ (m := a) (S := a.view.set) (q := fullShare) (f := f) (View.setOn_subset_set a.view _)) $$ [Hs]
  · iexact Hs
  iintro Hs
  rw [wp_ret]
  imodintro
  have e : a.view.readAt (Elt F) (Rect.unit (s := s) off s.size h).toLoadRect f = v := by
    have := View.readAt_eq_ld (Val := Elt F) a.view f (Rect.unit (s := s) off s.size h)
    exact this.trans ((View.ld_unit_zero ho h _).trans hf)
  rw [e]
  iapply Hk
  iexists f
  isplitr; · ipureintro; exact hf
  iexact Hs

theorem dev4_peer : ∀ (c : Dev nD) (j : Fin 4), k0_dev4 (BitVec.ofNat 32 (peer c j).val) = (peer c j).val := by decide

/-- The read of the table. -/
theorem tbl_load {Q : Elt F .i32 → sProp 𝕄} (j : Fin 4) {off : Fin 1 → ℕ} (ho : off = ![j.val]) {h : ∀ a, off a + S1.size a ≤ S4.size a}
    {h1 : (Rect.unit (s := S4) off S1.size h).shape.numel = 1} {hp : EltTy.i32.packing = 1} :
    tblPt (F := F) c ⊢ iprop((tblPt (F := F) c -∗ Q (show Elt F .i32 from BitVec.ofNat 32 (peer c j).val))
      -∗ WP c (smemLoad (Memref.whole main_v8) (Rect.unit (s := S4) off S1.size h) h1 hp) Q) := by
  subst ho
  unfold smemLoad WP
  have e : ((Memref.whole main_v8).access (Rect.unit (s := S4) ![j.val] S1.size h)).read (Elt F) (tbl (F := F) c) (Shape.Idx.first (h1.symm ▸ Nat.one_pos))
      = (show Elt F .i32 from BitVec.ofNat 32 (peer c j).val) := by
    have hi : (Rect.unit (s := S4) ![j.val] S1.size h).emb (Shape.Idx.first (h1.symm ▸ Nat.one_pos)) 0 = j :=
      Fin.ext (Nat.add_zero _)
    exact congrArg (fun k : Fin 4 => (show Elt F .i32 from BitVec.ofNat 32 (peer c k).val)) hi
  iintro Hs Hk
  iapply (wp_smemLoadElt 𝒱₀ (c : Thread nD τ) none Set.univ (m := Memref.whole main_v8) (S := Finset.univ) (q := fullShare)
    (f := tbl c) (Finset.subset_univ _)) $$ [Hs]
  · iexact Hs
  iintro Hs
  rw [wp_ret]
  imodintro
  rw [e]
  iapply Hk
  iexact Hs

theorem sm_any {Q : F .f32 → sProp 𝕄} {f : Buf (Elt F) ((c : Thread nD τ).loc cc0_scratch1)} {h : ∀ a, (![0] : Fin 1 → ℕ) a + S1.size a ≤ S1.size a} {h1 : (Rect.unit (s := S1) ![0] S1.size h).shape.numel = 1}
    {hp : EltTy.f32.packing = 1} :
    (((c : Thread nD τ).loc cc0_scratch1) ↦{fullShare} f) ⊢ iprop((∀ v, (((c : Thread nD τ).loc cc0_scratch1) ↦{fullShare} f) -∗ Q v)
      -∗ WP c (smemLoad sM (Rect.unit (s := S1) ![0] S1.size h) h1 hp) Q) := by
  unfold smemLoad WP
  iintro Hs Hk
  iapply (wp_smemLoadElt 𝒱₀ (c : Thread nD τ) none Set.univ (m := sM) (S := Finset.univ) (q := fullShare)
    (f := f) (Finset.subset_univ _)) $$ [Hs]
  · iexact Hs
  iintro Hs
  rw [wp_ret]
  imodintro
  iapply Hk
  iexact Hs

theorem piece_load {Q : (S1x1024x256.Idx → Elt F .bf16) → sProp 𝕄} (j : Fin 4) (q : Fin 8) {f : Buf (Elt F) ((c : Thread nD τ).loc cc0_scratch0)}
    {off : Fin 3 → ℕ} (e : off = ![j.val, 0, 256 * q.val]) {h : ∀ a, off a + S1x1024x256.size a ≤ S4x1024x2048.size a} {h1} :
    (((c : Thread nD τ).loc cc0_scratch0) ↦[ySet j q]{fullShare} f)
    ⊢ iprop((∀ v, (((c : Thread nD τ).loc cc0_scratch0) ↦[ySet j q]{fullShare} f) -∗ Q v)
      -∗ WP c (Prog.lift (.load yM (Rect.unit (s := S4x1024x2048) off S1x1024x256.size h).toLoadRect h1)) Q) := by
  rw [lift_wp]
  iintro Hs Hk
  iapply (wp_load_rect 𝒱₀ (c : Thread nD τ) none Set.univ (m := yM) (r := Rect.unit (s := S4x1024x2048) off S1x1024x256.size h) (S := ySet j q) (q := fullShare) (f := f) (yAcc_set j q h e).subset) $$ [Hs]
  · iexact Hs
  iintro Hs
  rw [wp_ret]
  imodintro
  iapply Hk
  iexact Hs

theorem piece_store {Q : PUnit → sProp 𝕄} (j : Fin 4) (q : Fin 8) {f : Buf (Elt F) ((c : Thread nD τ).loc cc0_scratch0)}
    {off : Fin 3 → ℕ} (e : off = ![j.val, 0, 256 * q.val]) {h : ∀ a, off a + S1x1024x256.size a ≤ S4x1024x2048.size a} {h1 h2} :
    (((c : Thread nD τ).loc cc0_scratch0) ↦[ySet j q]{fullShare} f)
    ⊢ iprop((part c cc0_scratch0 (ySet j q) (Yb m c) -∗ Q ⟨⟩)
      -∗ WP c (Prog.lift (.store yM (Rect.unit (s := S4x1024x2048) off S1x1024x256.size h) (chunk m c j q) Finset.univ h1 h2)) Q) := by
  rw [lift_wp]
  have hc : ((((c : Thread nD τ).loc cc0_scratch0) ↦[ySet j q]{fullShare} ((yAcc off h).write (Elt F) f (chunk m c j q) Finset.univ)) : sProp 𝕄)
      = part c cc0_scratch0 (ySet j q) (Yb m c) := pointsTo_congr fun i hi => stored m c q j h e f i hi
  iintro Hs Hk
  iapply (wp_store 𝒱₀ (c : Thread nD τ) none Set.univ (m := yM) (r := Rect.unit (s := S4x1024x2048) off S1x1024x256.size h) (S := ySet j q) (f := f) (yAcc_set j q h e).subset) $$ [Hs]
  · iexact Hs
  iintro Hs
  rw [wp_ret]
  imodintro
  iapply Hk
  iapply (Entails.of_eq hc)
  iexact Hs

end Cert.KernelIdeal
end
-- ==== Proof.Body.lean ====
/-
  The fused kernel's body at one point, on a device.
-/
module

public import proofs.«01_k».proof.Proof.Point
import Idealize.ShloMosaic.Lib.VecWindow

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable {m : (ℓ : Loc nD τ sig) → Buf (Elt F) ℓ} {K : GSem nD τ sig → ℕ} {c : Dev nD}
variable {i : grid0.Coords} {h2 : (Memref.whole main_v8).IsWhole} {a3 : Memref sig .tc .vmem S1024x4096 .bf16} {h3 : a3.IsWhole}
  {a4 : Memref sig .tc .vmem S4096x256 .bf16} {h4 : a4.IsWhole} {h5 : xM.IsWhole} {a6 : Memref sig .tc .vmem S8x128 .f32} {h6 : a6.IsWhole}
  {h7 : yM.IsWhole} {h8 : sM.IsWhole} {h9 : tM.IsWhole} {h10 : aM.IsWhole}

/-- A point's chunk, and its piece of it. -/
abbrev jj (i : grid0.Coords) : Fin 4 := i 0
abbrev qq (i : grid0.Coords) : Fin 8 := i 1
abbrev tt (i : grid0.Coords) : ℕ := 8 * (jj i).val + (qq i).val

theorem cond1_iff : ∀ i : grid0.Coords, k0_cond1 i = 1#1 ↔ tt i = 0 := by decide +kernel
theorem cond2_iff : ∀ i : grid0.Coords, k0_cond2 i = 1#1 ↔ (jj i).val < 3 := by decide +kernel
theorem cond3_iff : ∀ i : grid0.Coords, k0_cond3 i = 1#1 ↔ tt i = 31 := by decide +kernel

/-- What a point reads: its two windows. -/
abbrev Ins (m : (ℓ : Loc nD τ sig) → Buf (Elt F) ℓ) (c : Dev nD) (i : grid0.Coords) (a3 : Memref sig .tc .vmem S1024x4096 .bf16)
    (a4 : Memref sig .tc .vmem S4096x256 .bf16) : sProp 𝕄 :=
  iprop(owns (c : Thread nD τ) a3 fullShare (X m c) ∗ owns (c : Thread nD τ) a4 fullShare (wblk m c (jj i) (qq i)))

theorem run_barrier {β : Type} {Q : β → sProp 𝕄} {R : sProp 𝕄} {k : Prog (TpuEff nD τ sig (Elt F) Λ₀ .tc) β} {p1 p2 p3 : Dev nD}
    (e1 : p1 = c + dv 1) (e2 : p2 = c + dv 2) (e3 : p3 = c + dv 3) (hk : iprop(Met m K c ∗ R) ⊢ WP c k Q) :
    iprop(Entry m K c ∗ R) ⊢ WP c (do
      semSignalWord p1 (SemArray.scalar (sig.barrier 0 rfl) : Sems sig S_).sem 1#32
      semSignalWord p2 (SemArray.scalar (sig.barrier 0 rfl) : Sems sig S_).sem 1#32
      semSignalWord p3 (SemArray.scalar (sig.barrier 0 rfl) : Sems sig S_).sem 1#32
      semWaitWord (SemArray.scalar (sig.barrier 0 rfl) : Sems sig S_).sem 3#32
      k) Q := by
  unfold Entry BarGear
  rw [O₀_eq]
  iintro ⟨⟨#Hrec, #Hre, #Hl, HG, ⟨Hat, Hc, T1, T2, T3⟩, Hx, Ha, Ht, ⟨%W, HO⟩⟩, HR⟩
  ihave Hg := bar_gives $$ [Hx Ha]
  · isplitr; · iexact Hre
    isplitl [Hx] <;> iassumption
  icases Hg with ⟨⟨P1, P2, P3⟩, Hx, Ha⟩
  iapply bind_wp
  iapply (bar_signal (m := m) (K := K) 1 (by decide) e1 rfl) $$ [T1 P1 HO]
  · isplitr; · iexact Hrec
    isplitl [T1]; · iexact T1
    isplitl [P1] <;> iassumption
  iintro HO
  iapply bind_wp
  iapply (bar_signal (m := m) (K := K) 2 (by decide) e2 rfl) $$ [T2 P2 HO]
  · isplitr; · iexact Hrec
    isplitl [T2]; · iexact T2
    isplitl [P2] <;> iassumption
  iintro HO
  iapply bind_wp
  iapply (bar_signal (m := m) (K := K) 3 (by decide) e3 rfl) $$ [T3 P3 HO]
  · isplitr; · iexact Hrec
    isplitl [T3]; · iexact T3
    isplitl [P3] <;> iassumption
  iintro HO
  iapply bind_wp
  iapply (bar_wait (m := m) (K := K)) $$ [Hat Hc HO]
  · isplitr; · iexact Hrec
    isplitr; · iexact Hl
    isplitl [Hat]; · iexact Hat
    isplitl [Hc] <;> iassumption
  iintro ⟨HO, Hv, Hp⟩
  iapply hk
  isplitr [HR]
  · unfold Met
    ihave Hk := (bar_takes (m := m) (K := K)) $$ [HG Hp Hx Ha Ht]
    · isplitr; · iexact Hrec
      isplitr; · iexact Hre
      isplitl [HG]; · iexact HG
      isplitl [Hp]; · iexact Hp
      isplitl [Hx]; · iexact Hx
      isplitl [Ha] <;> iassumption
    icases Hk with ⟨HP, HK, Ht⟩
    isplitl [HP]; · iexact HP
    isplitl [HK]; · iexact HK
    isplitl [Ht]; · iexact Ht
    isplitl [HO] <;> iassumption
  iexact HR

theorem dev_wp {P : sProp 𝕄} {Q : Dev nD → sProp 𝕄} (h : P ⊢ Q c) : P ⊢ WP c (Prog.lift .deviceId) Q := by
  rw [lift_wp]
  simp only [wp_deviceId]
  rw [wp_ret]
  exact h.trans fupd_intro

theorem sem_at {base : ℕ} {hb : base + S24.numel ≤ 66} (n : Fin 24) {off : Fin 1 → ℕ} (e : off = ![n.val]) {h : ∀ a, off a + S1.size a ≤ S24.size a} :
    (((SemArray.consecutive base S24 hb).slice (Rect.unit (s := S24) off S1.size h)).squeeze S_ Gen.squeezes_S1_S_).sem
      = (⟨base + n.val, by have : S24.numel = 24 := rfl; omega⟩ : Fin 66) := by
  subst e
  have hr : ∀ i : S24.Idx, (S24.rowMajor i).val = (i 0).val := fun i => by rw [Shape.rowMajor_val_one]
  have h1 : ∀ j : S1.Idx, (j 0).val = 0 := fun j => by have : (j 0).val < 1 := (j 0).isLt; omega
  apply Fin.ext
  refine congrArg (base + ·) ((hr _).trans ?_)
  show n.val + 1 * _ = n.val
  rw [h1, Nat.mul_zero, Nat.add_zero]

/-- The place of a piece among the semaphores of its array. -/
abbrev place (x : Fin 3 × Fin 8) : Fin 24 := ⟨8 * x.1.val + x.2.val, by have := x.1.isLt; have := x.2.isLt; omega⟩

theorem sem_send (x : Fin 3 × Fin 8) {off : Fin 1 → ℕ} (e : off = ![8 * x.1.val + x.2.val]) {h : ∀ a, off a + S1.size a ≤ S24.size a} :
    SemLoc.dma ((SemArray.slice cc0_scratch4 (Rect.unit (s := S24) off S1.size h)).squeeze S_ Gen.squeezes_S1_S_).sem = osem0 (kSend x) :=
  congrArg SemLoc.dma (sem_at (place x) e)

theorem sem_recv (x : Fin 3 × Fin 8) {off : Fin 1 → ℕ} (e : off = ![8 * x.1.val + x.2.val]) {h : ∀ a, off a + S1.size a ≤ S24.size a} :
    SemLoc.dma ((SemArray.slice cc0_scratch5 (Rect.unit (s := S24) off S1.size h)).squeeze S_ Gen.squeezes_S1_S_).sem = osem0 (kRecv x) :=
  congrArg SemLoc.dma (sem_at (place x) e)

theorem assume_wp {p : Prop} {hd : Decidable p} (hp : p) {Q : PLift p → sProp 𝕄} :
    Q ⟨hp⟩ ⊢ WP c (Prog.lift (.assume p hd)) Q := by
  rw [lift_wp]
  iintro H
  iapply (wp_assume (𝒱 := 𝒱₀) (c := (c : Thread nD τ)) (bd := none) (E := Set.univ) hp)
  rw [wp_ret]
  imodintro
  iexact H

/-- The first point's state. -/
abbrev First (m : (ℓ : Loc nD τ sig) → Buf (Elt F) ℓ) (K : GSem nD τ sig → ℕ) (c : Dev nD) : sProp 𝕄 :=
  iprop(Entry m K c ∗ anyAt (F := F) c cc0_scratch0 ∗ anyAt (F := F) c cc0_scratch1 ∗ tblPt c)

theorem amx_step (i : grid0.Coords) : Gen.k0_pay5 (X m c) (wblk m c (jj i) (qq i)) (amx m c (tt i)) = amx m c (tt i + 1) := by
  have h0 : (⟨tt i / 8 % 4, Nat.mod_lt _ (by decide)⟩ : Fin 4) = jj i := by
    apply Fin.ext; have := (jj i).isLt; have := (qq i).isLt; show tt i / 8 % 4 = _; unfold tt; omega
  have h1 : (⟨tt i % 8, Nat.mod_lt _ (by decide)⟩ : Fin 8) = qq i := by
    apply Fin.ext; have := (jj i).isLt; have := (qq i).isLt; show tt i % 8 = _; unfold tt; omega
  show _ = Gen.k0_pay5 (X m c) (wblk m c ⟨tt i / 8 % 4, _⟩ ⟨tt i % 8, _⟩) (amx m c (tt i))
  rw [h0, h1]

set_option maxHeartbeats 4000000 in
theorem run_part19 {P R : sProp 𝕄} {Q : (Σ' (d0 : Dev nD) (v2 : BitVec 32), BitVec 1) → sProp 𝕄}
    (hf : tt i = 0 → P ⊢ First m K c) (hl : tt i ≠ 0 → P ⊢ Mid m K c (tt i))
    (h : ∀ v2 v33, iprop(Mid m K c (tt i + 1) ∗ Ins m c i a3 a4 ∗ R) ⊢ Q ⟨c, v2, v33⟩) :
    iprop(P ∗ Ins m c i a3 a4 ∗ R) ⊢ WP c (k0_part19 i (Memref.whole main_v8) h2 a3 h3 a4 h4 xM h5 a6 h6 yM h7 sM h8 tM h9 aM h10
      cc0_scratch4 cc0_scratch5 cc0_scratch6 cc0_scratch7 cc0_scratch8) Q := by
  rw [Gen.k0_part19_eq_skeleton]
  unfold Gen.k0_part19_skel
  refine bnd ?_
  refine dev_wp ?_
  extract_lets _ _ _ _ _ _ fin jp bar z
  have common : iprop(Mid m K c (tt i) ∗ Ins m c i a3 a4 ∗ R) ⊢ WP c (jp ⟨⟩) Q := by
    unfold Mid
    iintro ⟨⟨#HP, Hsm, Hpc, HK, Ht, ⟨%W, HO⟩, Hv⟩, ⟨H3, H4⟩, HR⟩
    ihave Hpc' := (pieces_take (m := m) (jj i, qq i)) $$ [Hpc]
    · iexact Hpc
    icases Hpc' with ⟨Ha, Hback⟩
    unfold ahead
    icases Ha with ⟨⟨%f, Hy⟩, Htk⟩
    iapply bind_wp
    iapply (stage_load (show (![0, 0] : Fin 2 → ℕ) = fun _ => 0 from by funext a; fin_cases a <;> rfl)) $$ H3
    iintro H3
    iapply bind_wp
    iapply (stage_load (show (![0, 0] : Fin 2 → ℕ) = fun _ => 0 from by funext a; fin_cases a <;> rfl)) $$ H4
    iintro H4
    iapply bind_wp
    iapply sm_load $$ Hsm
    iintro Hsm
    iapply bind_wp
    iapply sm_load $$ Hsm
    iintro Hsm
    iapply bind_wp
    iapply sm_store $$ Hsm
    iintro Hsm
    ihave Hsm' := (Entails.of_eq (congrArg (smPt c) (amx_step (m := m) (c := c) i))) $$ Hsm
    iapply bind_wp
    iapply (piece_load (jj i) (qq i) (Gen.k0_off2_eq i)) $$ [Hy]
    · iexact Hy
    iintro %v Hy
    iapply bind_wp
    iapply (piece_store (m := m) (jj i) (qq i) (Gen.k0_off2_eq i)) $$ [Hy]
    · iexact Hy
    iintro Hy
    by_cases hj : (jj i).val < 3
    · have hc2 := (cond2_iff i).mpr hj
      rw [dif_pos hc2]
      iapply bind_wp
      iapply (tbl_load (jj i) (Gen.k0_off3_eq i)) $$ Ht
      iintro Ht
      iapply bind_wp
      iapply (assume_wp (fun _ => (dev4_peer c (jj i)).symm ▸ (peer c (jj i)).isLt))
      ihave Htk' := (Entails.of_eq (dif_pos hj)) $$ Htk
      ihave HO' := (Entails.of_eq (congrArg (fun O => owes (c : Thread nD τ) O W) (show owedC c (tt i) + owedA c
          = (owedC c (tt i + 1) + owedA c) + tallyAt (cell (peer c (jj i)) (kRecv (⟨(jj i).val, hj⟩, qq i))) () NC from by
        rw [add_right_comm]; exact congrArg (· + owedA c) (owedC_step c (⟨(jj i).val, hj⟩, qq i))))) $$ HO
      iapply bind_wp
      iapply (send_piece (m := m) (K := K) (⟨(jj i).val, hj⟩, qq i) (Gen.k0_off6_eq i) (Gen.k0_off5_eq i c)
        (p := ⟨k0_dev4 (BitVec.ofNat 32 (peer c (jj i)).val), (dev4_peer c (jj i)).symm ▸ (peer c (jj i)).isLt⟩) (Fin.ext (dev4_peer c (jj i)))
        (sem_send (⟨(jj i).val, hj⟩, qq i) (Gen.k0_off4_eq i)) (sem_recv (⟨(jj i).val, hj⟩, qq i) (Gen.k0_off4_eq i))) $$ [Hy Htk' HO']
      · isplitr; · iexact HP
        isplitl [Hy]; · iexact Hy
        isplitl [Htk']; · iexact Htk'
        iexact HO'
      iintro ⟨Hc, HO⟩
      iapply pure_wp
      iapply (h _ _)
      isplitr [H3 H4 HR]
      · unfold Mid
        isplitr; · iexact HP
        isplitl [Hsm']; · iexact Hsm'
        isplitl [Hback Hc]
        · iapply Hback
          iapply (Entails.of_eq (show _ = behind m c (jj i, qq i) from (dif_pos hj).symm)); iexact Hc
        isplitl [HK]; · iexact HK
        isplitl [Ht]; · iexact Ht
        isplitl [HO]; · iexists _; iexact HO
        iexact Hv
      isplitl [H3 H4]; · isplitl [H3] <;> iassumption
      iexact HR
    · have hc2 : ¬ k0_cond2 i = 1#1 := fun h => hj ((cond2_iff i).mp h)
      rw [dif_neg hc2]
      have h3 : jj i = 3 := Fin.ext (by have := (jj i).isLt; show (jj i).val = 3; omega)
      iapply pure_wp
      iapply (h _ _)
      isplitr [H3 H4 HR]
      · unfold Mid
        isplitr; · iexact HP
        isplitl [Hsm']; · iexact Hsm'
        isplitl [Hback Hy]
        · iapply Hback
          iapply (Entails.of_eq (show _ = behind m c (jj i, qq i) from (dif_neg hj).symm)); iexact Hy
        isplitl [HK]; · iexact HK
        isplitl [Ht]; · iexact Ht
        isplitl [HO]
        · iexists W
          rw [owedC_end c (tt i) (by unfold tt; omega), owedC_end c (tt i + 1) (by unfold tt; omega)]
          iexact HO
        iexact Hv
      isplitl [H3 H4]; · isplitl [H3] <;> iassumption
      iexact HR
  by_cases h0 : tt i = 0
  · rw [dif_pos ((cond1_iff i).mpr h0)]
    refine (sep_mono_left (hf h0)).trans ?_
    iintro ⟨⟨He, Hy, ⟨%f, Hs⟩, Ht⟩, HI, HR⟩
    iapply (run_barrier (m := m) (K := K) (Fin.ext (Gen.k0_dev1_eq c)) (Fin.ext (Gen.k0_dev2_eq c)) (Fin.ext (Gen.k0_dev3_eq c)) (R := iprop(anyAt (F := F) c cc0_scratch0 ∗ (((c : Thread nD τ).loc cc0_scratch1) ↦{fullShare} f) ∗ tblPt c ∗ Ins m c i a3 a4 ∗ R)) ?_) $$ [He Hy Hs Ht HI HR]
    rotate_left
    · isplitl [He]; · iexact He
      isplitl [Hy]; · iexact Hy
      isplitl [Hs]; · iexact Hs
      isplitl [Ht]; · iexact Ht
      isplitl [HI] <;> iassumption
    unfold Met
    iintro ⟨⟨HP, HK, Htk, HO, Hv⟩, Hy, Hs, Ht, HI, HR⟩
    iapply bind_wp
    iapply sm_any $$ Hs
    iintro %v Hs
    iapply bind_wp
    iapply sm_store $$ Hs
    iintro Hs
    iapply common
    isplitr [HI HR]
    · unfold Mid
      rw [h0]
      isplitl [HP]; · iexact HP
      isplitl [Hs]; · iexact Hs
      isplitl [Hy Htk]; · iapply (pieces_zero (m := m)); isplitl [Hy] <;> iassumption
      isplitl [HK]; · iexact HK
      isplitl [Ht]; · iexact Ht
      isplitl [HO] <;> iassumption
    isplitl [HI] <;> iassumption
  · rw [dif_neg fun h => h0 ((cond1_iff i).mp h)]
    exact (sep_mono_left (hl h0)).trans common

/-- A store to a whole window. -/
theorem stage_store {s : Shape} {e : EltTy} {a : Memref sig .tc .vmem s e} {Q : PUnit → sProp 𝕄} {v w : s.Idx → Elt F e}
    {off : Fin s.rank → ℕ} (ho : off = fun _ => 0) {h : ∀ k, off k + s.size k ≤ s.size k} {h1 h2} :
    (owns (c : Thread nD τ) a fullShare v : sProp 𝕄)
    ⊢ iprop((owns (c : Thread nD τ) a fullShare w -∗ Q ⟨⟩) -∗ WP c (Prog.lift (.store a (Rect.unit (s := s) off s.size h) w Finset.univ h1 h2)) Q) := by
  rw [lift_wp]
  unfold owns
  iintro ⟨%f, %hf, Hs⟩ Hk
  iapply (wp_store_writes₀ 𝒱₀ (c : Thread nD τ) none Set.univ (m := a) (r := Rect.unit (s := s) off s.size h) (S := a.view.set) (f := f)
    (Memref.setOn_access_subset a _ Finset.univ)) $$ [Hs]
  · iexact Hs
  iintro Hs
  rw [wp_ret]
  imodintro
  iapply Hk
  iexists _
  isplitr; rotate_left; · iexact Hs
  ipureintro
  exact View.read_writes_full a.view f h w []

/-- After the last point. -/
def Done (m : (ℓ : Loc nD τ sig) → Buf (Elt F) ℓ) (c : Dev nD) : sProp 𝕄 :=
  iprop((((c : Thread nD τ).loc main_v9_0) ↦{fullShare} Yx m c) ∗ anyAt (F := F) c cc0_scratch0 ∗ anyAt (F := F) c cc0_scratch1
    ∗ anyAt (F := F) c cc0_scratch2 ∗ anyAt (F := F) c cc0_scratch3 ∗ tblPt c ∗ (bigSep Finset.univ fun k : CK => semVal (cell c k) 0)
    ∗ semVal (barCell c) 0 ∗ OW c 0)

/-- A point that is not the last. -/
theorem run_point {P R : sProp 𝕄} {Q : PUnit → sProp 𝕄} (ht : tt i ≠ 31)
    (hf : tt i = 0 → P ⊢ First m K c) (hl : tt i ≠ 0 → P ⊢ Mid m K c (tt i))
    (h : iprop(Mid m K c (tt i + 1) ∗ Ins m c i a3 a4 ∗ R) ⊢ Q ⟨⟩) :
    iprop(P ∗ Ins m c i a3 a4 ∗ R) ⊢ WP c (cc0__fused_body i (Memref.whole main_v8) h2 a3 h3 a4 h4 xM h5 a6 h6 yM h7 sM h8 tM h9 aM h10
      cc0_scratch4 cc0_scratch5 cc0_scratch6 cc0_scratch7 cc0_scratch8) Q := by
  rw [Gen.cc0__fused_body_eq_skeleton]
  unfold Gen.cc0__fused_body_skel
  refine bnd ?_
  refine run_part19 hf hl fun v2 v33 => ?_
  dsimp only
  rw [dif_neg fun h => ht ((cond3_iff i).mp h)]
  exact ret' h

theorem mid_fin : Mid m K c 32 ⊢ iprop(Fin0 m K c ∗ semVal (barCell c) 0) := by
  unfold Mid Fin0
  iintro ⟨HP, Hsm, Hpc, HK, Ht, ⟨%W, HO⟩, Hv⟩
  ihave Hpc' := pieces_end $$ Hpc
  icases Hpc' with ⟨Hc, Hy⟩
  isplitr [Hv]
  · isplitl [HP]; · iexact HP
    isplitl [Hsm]; · iexact Hsm
    isplitl [Hy]; · iexact Hy
    isplitl [Hc]; · iexact Hc
    isplitl [HK]; · iexact HK
    isplitl [Ht]; · iexact Ht
    iexists W
    rw [owedC_end c 32 (by decide), zero_add]
    iexact HO
  iexact Hv

/-- The last point. -/
theorem run_last {R : sProp 𝕄} {Q : PUnit → sProp 𝕄} (ht : tt i = 31) {v : S8x128.Idx → Elt F .f32}
    (h : iprop(Done m c ∗ owns (c : Thread nD τ) a6 fullShare (G m c) ∗ Ins m c i a3 a4 ∗ R) ⊢ Q ⟨⟩) :
    iprop(Mid m K c (tt i) ∗ Ins m c i a3 a4 ∗ owns (c : Thread nD τ) a6 fullShare v ∗ R)
    ⊢ WP c (cc0__fused_body i (Memref.whole main_v8) h2 a3 h3 a4 h4 xM h5 a6 h6 yM h7 sM h8 tM h9 aM h10
      cc0_scratch4 cc0_scratch5 cc0_scratch6 cc0_scratch7 cc0_scratch8) Q := by
  rw [Gen.cc0__fused_body_eq_skeleton]
  unfold Gen.cc0__fused_body_skel
  refine bnd ?_
  refine run_part19 (fun h => absurd h (by omega)) (fun _ => .rfl) fun v2 v33 => ?_
  dsimp only
  have h3' := (cond3_iff i).mpr ht
  rw [dif_pos h3', ht]
  refine (show _ ⊢ iprop(Fin0 m K c ∗ semVal (barCell c) 0 ∗ Ins m c i a3 a4 ∗ owns (c : Thread nD τ) a6 fullShare v ∗ R) from ?_).trans ?_
  · iintro ⟨H, HI, HR⟩
    ihave H' := (mid_fin (m := m) (K := K)) $$ [H]
    · iexact H
    icases H' with ⟨H1, H2⟩
    isplitl [H1]; · iexact H1
    isplitl [H2]; · iexact H2
    isplitl [HI] <;> iassumption
  refine bnd ?_
  refine run_part18 (by have := (jj i).isLt; have := (qq i).isLt; show (jj i).val = 3; unfold tt at ht; omega) ?_
  unfold Fin2
  iintro ⟨⟨Hx, Hy, Ht, ⟨%f, %hf, Ha⟩, Hsm, Htb, Hv, HO⟩, Hb, HI, H6, HR⟩
  iapply bind_wp
  iapply (max_load (m := m) hf 3 (by decide) rfl) $$ [Ha]
  · iexact Ha
  iintro Ha
  iapply bind_wp
  iapply (stage_load (show (![0, 0] : Fin 2 → ℕ) = fun _ => 0 from by funext a; fin_cases a <;> rfl)) $$ H6
  iintro H6
  iapply bind_wp
  iapply (stage_store (show (![0, 0] : Fin 2 → ℕ) = fun _ => 0 from by funext a; fin_cases a <;> rfl)) $$ H6
  iintro H6
  iapply pure_wp
  iapply h
  unfold Done
  isplitr [H6 HI HR]
  · isplitl [Hx]; · iexact Hx
    isplitl [Hy]; · iexists _; iexact Hy
    isplitl [Hsm]; · iexists _; iexact Hsm
    isplitl [Ht]; · iexists _; iexact Ht
    isplitl [Ha]; · iexists _; iexact Ha
    isplitl [Htb]; · iexact Htb
    isplitl [Hv]; · iexact Hv
    isplitl [Hb] <;> iassumption
  isplitl [H6]; · iexact H6
  isplitl [HI] <;> iassumption

end Cert.KernelIdeal
end
-- ==== Proof.Region0.lean ====
/-
  The fused call as a pipelined region: what its windows hold, what the device holds between two points, and
  the body's obligation at every point.
-/
module

public import proofs.«01_k».proof.Proof.Body
public import proofs.«01_k».proof.Proof.Gen.KernelIdeal.Launch
public import Idealize.ShloMosaic.Lib.Pipeline.TalkSched
public import Idealize.ShloMosaic.Lib.Pipeline.FrameBody

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The staging buffers of the second call, which the first leaves alone. -/
def Idle : sProp 𝕄 :=
  iprop(anyAt (F := F) c cc1_stg0_0 ∗ anyAt (F := F) c cc1_stg0_1 ∗ anyAt (F := F) c cc1_stg1_0 ∗ anyAt (F := F) c cc1_stg2_0 ∗ anyAt (F := F) c cc1_stg2_1)

/-- What a device holds before the first point, -/
def Start : sProp 𝕄 :=
  iprop((recs m K ∗ reachedAll c ∗ levAts L lv ∗ Gear c ∗ BarGear c ∗ anyAt (F := F) c main_v9_0) ∗ tblPt (F := F) c
    ∗ anyAt (F := F) c cc0_scratch0 ∗ anyAt (F := F) c cc0_scratch2 ∗ anyAt (F := F) c cc0_scratch3 ∗ anyAt (F := F) c cc0_scratch1)

/-- between two, -/
def Half (t : ℕ) : sProp 𝕄 :=
  iprop(Pers m K ∗ smPt c (amx m c t) ∗ Pieces m c t ∗ Keep c ∗ tblPt c ∗ semVal (barCell c) 0)

/-- and after the last. -/
def End : sProp 𝕄 :=
  iprop((tblPt (F := F) c ∗ (((c : Thread nD τ).loc main_v9_0) ↦{fullShare} (Yx m c)) ∗ semVal (barCell c) 0)
    ∗ (bigSep Finset.univ fun k : CK => semVal (cell c k) 0)
    ∗ anyAt (F := F) c cc0_scratch0 ∗ anyAt (F := F) c cc0_scratch2 ∗ anyAt (F := F) c cc0_scratch3 ∗ anyAt (F := F) c cc0_scratch1)

def Inv (t : ℕ) : sProp 𝕄 :=
  if t = 0 then iprop((∃ K, Start m K c) ∗ Idle c) else if t = 32 then iprop(End m c ∗ Idle c) else iprop((∃ K, Half m K c t) ∗ Idle c)

/-- What it owes before a point. -/
def Owe (t : ℕ) : CellTallies nD τ sig Unit := if t = 0 then O₀ c else if t = 32 then 0 else owedC c t + owedA c

variable {m K c}

theorem start_first : iprop(Start m K c ∗ OW c (O₀ c)) ⊢ First m K c := by
  unfold Start First Entry
  iintro ⟨⟨⟨Hr, Hre, Hl, HG, HB, Hx⟩, Ht, H0, H2, H3, H1⟩, HO⟩
  isplitl [Hr Hre Hl HG HB Hx H2 H3 HO]
  · isplitl [Hr]; · iexact Hr
    isplitl [Hre]; · iexact Hre
    isplitl [Hl]; · iexact Hl
    isplitl [HG]; · iexact HG
    isplitl [HB]; · iexact HB
    isplitl [Hx]; · iexact Hx
    isplitl [H3]; · iexact H3
    isplitl [H2]; · iexact H2
    iexact HO
  isplitl [H0]; · iexact H0
  isplitl [H1]; · iexact H1
  iexact Ht

theorem half_mid {t : ℕ} : iprop(Half m K c t ∗ OW c (owedC c t + owedA c)) ⊢ Mid m K c t := by
  unfold Half Mid
  iintro ⟨⟨Hp, Hs, Hc, Hk, Ht, Hb⟩, HO⟩
  isplitl [Hp]; · iexact Hp
  isplitl [Hs]; · iexact Hs
  isplitl [Hc]; · iexact Hc
  isplitl [Hk]; · iexact Hk
  isplitl [Ht]; · iexact Ht
  isplitl [HO]; · iexact HO
  iexact Hb

theorem mid_half {t : ℕ} : Mid m K c t ⊢ iprop(Half m K c t ∗ OW c (owedC c t + owedA c)) := by
  unfold Half Mid
  iintro ⟨Hp, Hs, Hc, Hk, Ht, HO, Hb⟩
  isplitr [HO]
  · isplitl [Hp]; · iexact Hp
    isplitl [Hs]; · iexact Hs
    isplitl [Hc]; · iexact Hc
    isplitl [Hk]; · iexact Hk
    isplitl [Ht]; · iexact Ht
    iexact Hb
  iexact HO

theorem done_end : Done m c ⊢ iprop(End m c ∗ OW c 0) := by
  unfold Done End
  iintro ⟨Hx, H0, H1, H2, H3, Ht, Hs, Hb, HO⟩
  isplitr [HO]
  · isplitl [Ht Hx Hb]
    · isplitl [Ht]; · iexact Ht
      isplitl [Hx]; · iexact Hx
      iexact Hb
    isplitl [Hs]; · iexact Hs
    isplitl [H0]; · iexact H0
    isplitl [H2]; · iexact H2
    isplitl [H3]; · iexact H3
    iexact H1
  iexact HO

variable (m c)

/-- The table's contents, on a device. -/
abbrev adm0 (c : Dev nD) : (pcfg0 (F := F)).Adm := ⟨tblP c, ok_tbl c⟩

def after0 : (w : Fin 3) → (t : Fin grid0.N) → (spec0 w).block.Idx → Elt F (spec0 w).elt
  | 0 => fun _ => X m c
  | 1 => fun t => wblk m c (jj (grid0.coords t)) (qq (grid0.coords t))
  | 2 => fun _ => G m c
  | ⟨_ + 3, h⟩ => absurd h (Nat.not_lt.2 (Nat.le_add_left _ _))

/-- The region's data. -/
def dat0 : Pipeline.Dat τ (Elt F) Unit ℕ UU ℕ (cfg0 (adm0 (F := F) c)) c where
  A w := Gen.V1 m c (Pipeline.arrRef spec0 w)
  after w t := after0 m c w t
  Φ t := Inv m c t.val
  q _ := fullShare
  owed t := Owe c t.val

theorem tt_coords : ∀ t : Fin grid0.N, tt (grid0.coords t) = t.val := by decide +kernel
theorem not_idle0 (w : Fin 3) (hw : w ≠ 2) : ∀ i, (cfg0 (adm0 (F := F) c)).idle w i = false := fun i => by
  match w, hw with
  | 0, _ => rfl
  | 1, _ => rfl
  | 2, h => exact absurd rfl h

theorem flush0_2 (t : Fin grid0.N) : ((cfg0 (adm0 (F := F) c)).win 2).flush t = true ↔ t.val % 32 = 31 :=
  Pipeline.Window.flush_const ((cfg0 (adm0 (F := F) c)).win 2) rfl (fun _ _ => rfl) (n := 32) (m := 31) Gen.N_0 rfl t

theorem V1_arg0 : Gen.V1 m c main_arg0 = X m c := Gen.V1_of m c main_arg0 (by decide)
theorem V1_arg1 : Gen.V1 m c main_arg1 = W m c := Gen.V1_of m c main_arg1 (by decide)

theorem after0_0 (t : Fin grid0.N) : (dat0 m c).blockOf 0 t = X m c := by
  show (((cfg0 (adm0 (F := F) c)).win 0).blk t).view.read (Elt F) (Gen.V1 m c main_arg0) = _
  rw [V1_arg0]
  funext (y : S1024x4096.Idx)
  show X m c ((((cfg0 (adm0 (F := F) c)).win 0).blk t).view.emb y) = X m c y
  refine congrArg (X m c) (funext fun a => Fin.ext ?_)
  refine (Pipeline.Window.rect_emb_val_off ((cfg0 (adm0 (F := F) c)).win 0) t y a).trans ?_
  revert a
  refine fun | (0 : Fin 2) => ?_ | (1 : Fin 2) => ?_
  · show 0 * 1024 + (y 0).val = (y 0).val; omega
  · show 0 * 4096 + (y 1).val = (y 1).val; omega

theorem after0_1 (t : Fin grid0.N) : (dat0 m c).blockOf 1 t = wblk m c (jj (grid0.coords t)) (qq (grid0.coords t)) := by
  show (((cfg0 (adm0 (F := F) c)).win 1).blk t).view.read (Elt F) (Gen.V1 m c main_arg1) = _
  rw [V1_arg1]
  funext (y : S4096x256.Idx)
  show W m c ((((cfg0 (adm0 (F := F) c)).win 1).blk t).view.emb y) = W m c (ix2 (y 0) ⟨_, _⟩)
  refine congrArg (W m c) (funext fun a => Fin.ext ?_)
  refine (Pipeline.Window.rect_emb_val_off ((cfg0 (adm0 (F := F) c)).win 1) t y a).trans ?_
  have e : ((cfg0 (adm0 (F := F) c)).win 1).index t = _ := transform1_eq c (grid0.coords t)
  rw [e]
  revert a
  refine fun | (0 : Fin 2) => ?_ | (1 : Fin 2) => ?_
  · show 0 * 4096 + (y 0).val = (y 0).val; omega
  · show ((peer c (jj (grid0.coords t))).val * 8 + (qq (grid0.coords t)).val) * 256 + (y 1).val
      = (peer c (jj (grid0.coords t))).val * 2048 + (qq (grid0.coords t)).val * 256 + (y 1).val
    omega

theorem before0_0 (t : Fin grid0.N) (d) : (dat0 m c).before 0 t d = X m c :=
  ((dat0 m c).before_in_eq_fetched 0 rfl (not_idle0 c 0 (by decide)) (fun _ _ _ => rfl) (fun t => (after0_0 m c t).symm) t d).trans (after0_0 m c t)

theorem before0_1 (t : Fin grid0.N) (d) : (dat0 m c).before 1 t d = wblk m c (jj (grid0.coords t)) (qq (grid0.coords t)) :=
  ((dat0 m c).before_in_eq_fetched 1 rfl (not_idle0 c 1 (by decide)) (fun _ _ _ => rfl) (fun t => (after0_1 m c t).symm) t d).trans (after0_1 m c t)

theorem owe_take (t : Fin (grid0.N + 1)) : (dat0 m c).owesAt () t ⊢ OW c (Owe c t.val) :=
  TalkSites.owesAt_elim (dat0 m c) () t _ rfl

theorem owe_give (t : Fin (grid0.N + 1)) : OW c (Owe c t.val) ⊢ (dat0 m c).owesAt () t := by
  iintro ⟨%W, H⟩
  iapply (TalkSites.owesAt_intro (dat0 m c) () t (Owe c t.val) rfl rfl W) $$ H

/-- The windows' buffers at a point. -/
abbrev st0 (t : Fin grid0.N) (w : Fin 3) := ((cfg0 (adm0 (F := F) c)).win w).stage ((cfg0 (adm0 (F := F) c)).slots t w)

/-- The last window's buffer before a point, and after. -/
abbrev Top (t : Fin grid0.N) : sProp 𝕄 := iprop(∃ d, owns (c : Thread nD τ) (st0 (F := F) c t 2) fullShare ((dat0 m c).before 2 t d))

theorem top_idle {t : Fin grid0.N} (h : t.val ≠ 31) : (dat0 m c).leavesExact 2 t = Top m c t :=
  (dat0 m c).leavesExact_idle 2 t
    (by
      show (!(k0_cond3 (grid0.coords t) == 1#1)) = true
      have h3 : ¬ k0_cond3 (grid0.coords t) = 1#1 := fun e => h ((tt_coords t).symm.trans ((cond3_iff _).1 e))
      simpa using h3)
    (by
      rw [← Bool.not_eq_true, flush0_2 c t]
      have hN : t.val < 32 := Gen.N_0 ▸ t.isLt
      omega)

theorem top_last {t : Fin grid0.N} (h : t.val = 31) :
    (dat0 m c).leavesExact 2 t = owns (c : Thread nD τ) (st0 (F := F) c t 2) fullShare (G m c) := by
  have hi : (cfg0 (adm0 (F := F) c)).idle 2 ((cfg0 (adm0 (F := F) c)).grid.coords t) = false := by
    show (!(k0_cond3 (grid0.coords t) == 1#1)) = false
    have h3 : k0_cond3 (grid0.coords t) = 1#1 := (cond3_iff _).2 ((tt_coords t).trans h)
    simpa using h3
  unfold Pipeline.Dat.leavesExact
  rw [hi]
  rfl

theorem inv_zero : Inv m c 0 = iprop((∃ K, Start m K c) ∗ Idle c) := if_pos rfl
theorem inv_last : Inv m c 32 = iprop(End m c ∗ Idle c) := by unfold Inv; rw [if_neg (by decide), if_pos rfl]
theorem inv_mid {t : ℕ} (h0 : t ≠ 0) (h1 : t ≠ 32) : Inv m c t = iprop((∃ K, Half m K c t) ∗ Idle c) := by unfold Inv; rw [if_neg h0, if_neg h1]
theorem owe_zero : Owe c 0 = O₀ c := if_pos rfl
theorem owe_last : Owe c 32 = 0 := by unfold Owe; rw [if_neg (by decide), if_pos rfl]
theorem owe_mid {t : ℕ} (h0 : t ≠ 0) (h1 : t ≠ 32) : Owe c t = owedC c t + owedA c := by unfold Owe; rw [if_neg h0, if_neg h1]

/-- Before a point below the last, for some naming of the cells, the device holds what the body takes. -/
theorem inv_take (t : ℕ) (ht : t ≠ 32) : iprop(Inv m c t ∗ OW c (Owe c t))
    ⊢ iprop((∃ K, ⌜t = 0⌝ ∗ First m K c ∨ ⌜t ≠ 0⌝ ∗ Mid m K c t) ∗ Idle c) := by
  by_cases h0 : t = 0
  · subst h0
    rw [inv_zero, owe_zero]
    iintro ⟨⟨⟨%K, HS⟩, HI⟩, HO⟩
    isplitr [HI]
    · iexists K
      ileft
      isplitr; · ipureintro; rfl
      iapply start_first
      isplitl [HS] <;> iassumption
    iexact HI
  · rw [inv_mid m c h0 ht, owe_mid c h0 ht]
    iintro ⟨⟨⟨%K, HS⟩, HI⟩, HO⟩
    isplitr [HI]
    · iexists K
      iright
      isplitr; · ipureintro; exact h0
      iapply half_mid
      isplitl [HS] <;> iassumption
    iexact HI

theorem point_mid (t : Fin grid0.N) (ht : t.val ≠ 31) {p2 : (Memref.whole main_v8).IsWhole} {p3 : (st0 (F := F) c t 0).IsWhole}
    {p4 : (st0 (F := F) c t 1).IsWhole} {p5 : xM.IsWhole} {p6 : (st0 (F := F) c t 2).IsWhole} {p7 : yM.IsWhole} {p8 : sM.IsWhole} {p9 : tM.IsWhole}
    {p10 : aM.IsWhole} :
    iprop((Inv m c t.val ∗ OW c (Owe c t.val)) ∗ Ins m c (grid0.coords t) (st0 (F := F) c t 0) (st0 (F := F) c t 1) ∗ Top m c t)
    ⊢ WP c (cc0__fused_body (grid0.coords t) (Memref.whole main_v8) p2 (st0 (F := F) c t 0) p3 (st0 (F := F) c t 1) p4 xM p5
        (st0 (F := F) c t 2) p6 yM p7 sM p8 tM p9 aM p10 cc0_scratch4 cc0_scratch5 cc0_scratch6 cc0_scratch7 cc0_scratch8)
      fun _ => iprop((Inv m c (t.val + 1) ∗ OW c (Owe c (t.val + 1)))
        ∗ Ins m c (grid0.coords t) (st0 (F := F) c t 0) (st0 (F := F) c t 1) ∗ Top m c t) := by
  have hN : t.val < 32 := Gen.N_0 ▸ t.isLt
  have e := tt_coords t
  iintro ⟨H, HI, HT⟩
  ihave H' := inv_take m c t.val (by omega) $$ H
  icases H' with ⟨⟨%K, HP⟩, HR⟩
  iapply (run_point (m := m) (K := K) (c := c) (i := grid0.coords t) (a3 := st0 (F := F) c t 0) (a4 := st0 (F := F) c t 1) (a6 := st0 (F := F) c t 2)
    (P := iprop(⌜t.val = 0⌝ ∗ First m K c ∨ ⌜t.val ≠ 0⌝ ∗ Mid m K c t.val)) (R := iprop(Idle c ∗ Top m c t))
    (by rw [e]; exact ht) (fun h => ?_) (fun h => ?_) ?_) $$ [HP HI HR HT]
  rotate_left 3
  · isplitl [HP]; · iexact HP
    isplitl [HI]; · iexact HI
    isplitl [HR] <;> iassumption
  · rw [e, inv_mid m c (by omega) (by omega), owe_mid c (by omega) (by omega)]
    iintro ⟨HM, HI, HR, HT⟩
    ihave HM' := mid_half $$ HM
    icases HM' with ⟨HM, HO⟩
    isplitl [HM HR HO]
    · isplitl [HM HR]
      · isplitl [HM]; · iexists K; iexact HM
        iexact HR
      iexact HO
    isplitl [HI] <;> iassumption
  · iintro (⟨%h0, H⟩ | ⟨%h0, H⟩)
    · iexact H
    · exact absurd (e.symm.trans h) h0
  · rw [e]
    iintro (⟨%h0, H⟩ | ⟨%h0, H⟩)
    · exact absurd (e.trans h0) h
    · iexact H

theorem point_last (t : Fin grid0.N) (ht : t.val = 31) {p2 : (Memref.whole main_v8).IsWhole} {p3 : (st0 (F := F) c t 0).IsWhole}
    {p4 : (st0 (F := F) c t 1).IsWhole} {p5 : xM.IsWhole} {p6 : (st0 (F := F) c t 2).IsWhole} {p7 : yM.IsWhole} {p8 : sM.IsWhole} {p9 : tM.IsWhole}
    {p10 : aM.IsWhole} :
    iprop((Inv m c t.val ∗ OW c (Owe c t.val)) ∗ Ins m c (grid0.coords t) (st0 (F := F) c t 0) (st0 (F := F) c t 1) ∗ Top m c t)
    ⊢ WP c (cc0__fused_body (grid0.coords t) (Memref.whole main_v8) p2 (st0 (F := F) c t 0) p3 (st0 (F := F) c t 1) p4 xM p5
        (st0 (F := F) c t 2) p6 yM p7 sM p8 tM p9 aM p10 cc0_scratch4 cc0_scratch5 cc0_scratch6 cc0_scratch7 cc0_scratch8)
      fun _ => iprop((Inv m c (t.val + 1) ∗ OW c (Owe c (t.val + 1)))
        ∗ Ins m c (grid0.coords t) (st0 (F := F) c t 0) (st0 (F := F) c t 1)
        ∗ owns (c : Thread nD τ) (st0 (F := F) c t 2) fullShare (G m c)) := by
  have e := (tt_coords t).trans ht
  iintro ⟨H, HI, ⟨%d, HT⟩⟩
  ihave H' := inv_take m c t.val (by omega) $$ H
  icases H' with ⟨⟨%K, (⟨%h0, HP⟩ | ⟨%h0, HP⟩)⟩, HR⟩
  · exact absurd (ht.symm.trans h0) (by decide)
  iapply (run_last (m := m) (K := K) (c := c) (i := grid0.coords t) (a3 := st0 (F := F) c t 0) (a4 := st0 (F := F) c t 1) (a6 := st0 (F := F) c t 2)
    (R := Idle c) (v := (dat0 m c).before 2 t d) e ?_) $$ [HP HI HR HT]
  rotate_left
  · isplitl [HP]; · rw [tt_coords t]; iexact HP
    isplitl [HI]; · iexact HI
    isplitl [HT] <;> iassumption
  · rw [ht, show 31 + 1 = 32 from rfl, inv_last, owe_last]
    iintro ⟨HM, HT, HI, HR⟩
    ihave HM' := done_end $$ HM
    icases HM' with ⟨HM, HO⟩
    isplitl [HM HR HO]
    · isplitl [HM HR]
      · isplitl [HM] <;> iassumption
      iexact HO
    isplitl [HI] <;> iassumption

/-- A point's program, whatever it leaves in the last window's buffer. -/
theorem point (t : Fin grid0.N) {p2 : (Memref.whole main_v8).IsWhole} {p3 : (st0 (F := F) c t 0).IsWhole}
    {p4 : (st0 (F := F) c t 1).IsWhole} {p5 : xM.IsWhole} {p6 : (st0 (F := F) c t 2).IsWhole} {p7 : yM.IsWhole} {p8 : sM.IsWhole} {p9 : tM.IsWhole}
    {p10 : aM.IsWhole} :
    iprop((Inv m c t.val ∗ OW c (Owe c t.val)) ∗ Ins m c (grid0.coords t) (st0 (F := F) c t 0) (st0 (F := F) c t 1) ∗ Top m c t)
    ⊢ WP c (cc0__fused_body (grid0.coords t) (Memref.whole main_v8) p2 (st0 (F := F) c t 0) p3 (st0 (F := F) c t 1) p4 xM p5
        (st0 (F := F) c t 2) p6 yM p7 sM p8 tM p9 aM p10 cc0_scratch4 cc0_scratch5 cc0_scratch6 cc0_scratch7 cc0_scratch8)
      fun _ => iprop((Inv m c (t.val + 1) ∗ OW c (Owe c (t.val + 1)))
        ∗ Ins m c (grid0.coords t) (st0 (F := F) c t 0) (st0 (F := F) c t 1) ∗ (dat0 m c).leavesExact 2 t) := by
  by_cases ht : t.val = 31
  · rw [top_last m c ht]; exact point_last m c t ht
  · rw [top_idle m c ht]; exact point_mid m c t ht

theorem phi_take (t : Fin grid0.N) : (dat0 m c).Φ t.castSucc ⊢ Inv m c t.val := .rfl
theorem phi_give (t : Fin grid0.N) : Inv m c (t.val + 1) ⊢ (dat0 m c).Φ t.succ := .rfl
theorem owe_at (t : Fin grid0.N) : (dat0 m c).owesAt () t.castSucc ⊢ OW c (Owe c t.val) := owe_take m c t.castSucc

theorem hbody0 : Pipeline.BodyObligation (dat0 m c) defs₀ 𝒱₀ () Set.univ := fun t => by
  refine BIBase.Entails.trans (BIClass.sep_mono (phi_take m c t) (BIClass.sep_mono (owe_at m c t) (show _ ⊢ iprop((∃ d, owns (c : Thread nD τ) (st0 (F := F) c t 0) fullShare ((dat0 m c).before 0 t d))
    ∗ (∃ d, owns (c : Thread nD τ) (st0 (F := F) c t 1) fullShare ((dat0 m c).before 1 t d)) ∗ Top m c t) from Entails.of_eq (Gen.bigSep_W0 _)))) ?_
  refine BIBase.Entails.trans ?_ (wp_mono _ _ _ fun _ => BIClass.sep_mono (phi_give m c t) (BIClass.sep_mono (owe_give m c t.succ)
    (Entails.of_eq (Gen.bigSep_W0 fun w => (dat0 m c).leavesExact w t).symm)))
  refine BIBase.Entails.trans ?_ ((point m c t).trans (wp_mono _ _ _ fun _ => ?_))
  · iintro ⟨HI, HO, ⟨%d0, H0⟩, ⟨%d1, H1⟩, HT⟩
    isplitl [HI HO]
    · isplitl [HI] <;> iassumption
    isplitr [HT]
    · isplitl [H0]
      · ihave H0' := (Entails.of_eq (congrArg (owns (c : Thread nD τ) (st0 (F := F) c t 0) fullShare) (before0_0 m c t d0))) $$ H0
        iexact H0'
      · ihave H1' := (Entails.of_eq (congrArg (owns (c : Thread nD τ) (st0 (F := F) c t 1) fullShare) (before0_1 m c t d1))) $$ H1
        iexact H1'
    iexact HT
  · iintro ⟨⟨HI, HO⟩, ⟨H0, H1⟩, HT⟩
    isplitl [HI]; · iexact HI
    isplitl [HO]; · iexact HO
    isplitl [H0]; · iexact H0
    isplitl [H1]; · iexact H1
    iexact HT

end Cert.KernelIdeal

end
-- ==== Proof.Region1.lean ====
/-
  The second call as a pipelined region: every point reads a block of rows of the gathered product and the
  maximum, and writes the block of rows of the result.
-/
module

public import proofs.«01_k».proof.Proof.Region0
public import proofs.«01_k».proof.Proof.Gen.KernelIdeal.Points
public import Idealize.ShloMosaic.Lib.Pipeline.ValueKit.Geometry

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (c : Dev nD)

/-- The block of rows of the gathered product a point reads. -/
def rows (t : Fin 8) : Vec F S512x2048 .bf16 := fun i =>
  Yx m c (ix2 (⟨t.val * 512 + (i 0).val, by have := (i 0).isLt; have : (i 0).val < 512 := this; omega⟩ : Fin 4096) (i 1))

/-- The maximum, as a point reads it. -/
def top : Vec F S1x1 .f32 := fun _ => G m c (ix2 0 0)

/-- What a point writes. -/
def quant (t : Fin 8) : FVec F S512x2048 .f32 := Gen.k1_pay1 (top m c) (rows m c t)

/-- The windows' arrays when the region starts. -/
def arr1 : (w : Fin 3) → Buf (Elt F) ((cfg1.spec w).arr.view.loc (c.tc : Thread nD τ))
  | 0 => Yx m c
  | 1 => G m c
  | 2 => m ((c : Thread nD τ).loc main_v10)
  | ⟨_ + 3, h⟩ => absurd h (Nat.not_lt.2 (Nat.le_add_left _ _))

def pt8 (t : Fin grid1.N) : Fin 8 := ⟨t.val, Gen.N_1 ▸ t.isLt⟩

def after1 : (w : Fin 3) → (t : Fin grid1.N) → (cfg1.spec w).block.Idx → Elt F (cfg1.spec w).elt
  | 0 => fun t => rows m c (pt8 t)
  | 1 => fun _ => G m c
  | 2 => fun t => quant m c (pt8 t)
  | ⟨_ + 3, h⟩ => absurd h (Nat.not_lt.2 (Nat.le_add_left _ _))

/-- The region's data. -/
def dat1 : Pipeline.Dat τ (Elt F) Unit ℕ UU ℕ cfg1 c where
  A := arr1 m c
  after w t := after1 m c w t
  Φ _ := Pipeline.scopedRest cfg1.spec c
  q _ := fullShare
  owed _ := 0

theorem index1_0 : ∀ t : Fin grid1.N, win1_0.index t = ![t.val, 0] := by decide +kernel
theorem index1_2 : ∀ t : Fin grid1.N, win1_2.index t = ![t.val, 0] := by decide +kernel

theorem blockOf1_0 (t : Fin grid1.N) : (dat1 m c).blockOf 0 t = rows m c (pt8 t) := by
  show ((cfg1.win 0).blk t).view.read (Elt F) (Yx m c) = _
  funext (y : S512x2048.Idx)
  show Yx m c (((cfg1.win 0).blk t).view.emb y) = Yx m c (ix2 ⟨_, _⟩ (y 1))
  refine congrArg (Yx m c) (funext fun a => Fin.ext ?_)
  refine (Pipeline.Window.rect_emb_val_off (cfg1.win 0) t y a).trans ?_
  have e : (cfg1.win 0).index t = _ := index1_0 t
  rw [e]
  revert a
  refine fun | (0 : Fin 2) => ?_ | (1 : Fin 2) => ?_
  · rfl
  · show 0 * 2048 + (y 1).val = (y 1).val; omega

theorem blockOf1_1 (t : Fin grid1.N) : (dat1 m c).blockOf 1 t = G m c := by
  show ((cfg1.win 1).blk t).view.read (Elt F) (G m c) = _
  funext (y : S8x128.Idx)
  show G m c (((cfg1.win 1).blk t).view.emb y) = G m c y
  refine congrArg (G m c) (funext fun a => Fin.ext ?_)
  refine (Pipeline.Window.rect_emb_val_off (cfg1.win 1) t y a).trans ?_
  revert a
  refine fun | (0 : Fin 2) => ?_ | (1 : Fin 2) => ?_
  · show 0 * 8 + (y 0).val = (y 0).val; omega
  · show 0 * 128 + (y 1).val = (y 1).val; omega

theorem before1_0 (t : Fin grid1.N) (d) : (dat1 m c).before 0 t d = rows m c (pt8 t) :=
  ((dat1 m c).before_in_eq_fetched 0 rfl (fun _ => rfl) (fun _ _ _ => rfl) (fun t => (blockOf1_0 m c t).symm) t d).trans (blockOf1_0 m c t)
theorem before1_1 (t : Fin grid1.N) (d) : (dat1 m c).before 1 t d = G m c :=
  ((dat1 m c).before_in_eq_fetched 1 rfl (fun _ => rfl) (fun _ _ _ => rfl) (fun t => (blockOf1_1 m c t).symm) t d).trans (blockOf1_1 m c t)

/-- A load of the corner of a tile. -/
theorem corner_load {a : Memref sig .tc .vmem S8x128 .f32} {Q : (S1x1.Idx → Elt F .f32) → sProp 𝕄} {v : S8x128.Idx → Elt F .f32}
    {h : ∀ k, (![0, 0] : Fin 2 → ℕ) k + S1x1.size k ≤ S8x128.size k} {h1} :
    (owns (c : Thread nD τ) a fullShare v : sProp 𝕄)
    ⊢ iprop((owns (c : Thread nD τ) a fullShare v -∗ Q (fun _ : S1x1.Idx => v (ix2 0 0)))
      -∗ WP c (Prog.lift (.load a (Rect.unit (s := S8x128) ![0, 0] S1x1.size h).toLoadRect h1)) Q) := by
  rw [lift_wp]
  unfold owns
  iintro ⟨%f, %hf, Hs⟩ Hk
  iapply (wp_load 𝒱₀ (c : Thread nD τ) none Set.univ (m := a) (S := a.view.set) (q := fullShare) (f := f) (View.setOn_subset_set a.view _)) $$ [Hs]
  · iexact Hs
  iintro Hs
  rw [wp_ret]
  imodintro
  have e : a.view.readAt (Elt F) (Rect.unit (s := S8x128) ![0, 0] S1x1.size h).toLoadRect f = (fun _ : S1x1.Idx => v (ix2 0 0)) := by
    have := View.readAt_eq_ld (Val := Elt F) a.view f (Rect.unit (s := S8x128) ![0, 0] S1x1.size h)
    refine this.trans ?_
    rw [hf]
    funext x
    have hx : (Rect.unit (s := S8x128) ![0, 0] S1x1.size h).emb x = ix2 0 0 := by
      funext k
      apply Fin.ext
      fin_cases k
      · show 0 + 1 * (x 0).val = 0; have : (x 0).val < 1 := (x 0).isLt; omega
      · show 0 + 1 * (x 1).val = 0; have : (x 1).val < 1 := (x 1).isLt; omega
    exact congrArg v hx
  rw [e]
  iapply Hk
  iexists f
  isplitr; · ipureintro; exact hf
  iexact Hs

theorem zero2 : (![0, 0] : Fin 2 → ℕ) = fun _ => 0 := by funext a; fin_cases a <;> rfl

theorem quant_point {i : grid1.Coords} {a1 : Memref sig .tc .vmem S512x2048 .bf16} {h1 : a1.IsWhole} {a2 : Memref sig .tc .vmem S8x128 .f32}
    {h2 : a2.IsWhole} {a3 : Memref sig .tc .vmem S512x2048 .f32} {h3 : a3.IsWhole} {R : sProp 𝕄} (t : Fin 8) {v : S512x2048.Idx → Elt F .f32} :
    iprop(R ∗ owns (c : Thread nD τ) a1 fullShare (rows m c t) ∗ owns (c : Thread nD τ) a2 fullShare (G m c) ∗ owns (c : Thread nD τ) a3 fullShare v)
    ⊢ WP c (cc1__quant_body i a1 h1 a2 h2 a3 h3) fun _ =>
      iprop(R ∗ owns (c : Thread nD τ) a1 fullShare (rows m c t) ∗ owns (c : Thread nD τ) a2 fullShare (G m c)
        ∗ owns (c : Thread nD τ) a3 fullShare (quant m c t)) := by
  rw [Gen.cc1__quant_body_eq_skeleton]
  unfold Gen.cc1__quant_body_skel
  iintro ⟨HR, H1, H2, H3⟩
  iapply bind_wp
  iapply (corner_load (a := a2)) $$ H2
  iintro H2
  iapply bind_wp
  iapply (stage_load (a := a1) zero2) $$ H1
  iintro H1
  iapply bind_wp
  iapply (stage_load (a := a3) zero2) $$ H3
  iintro H3
  iapply bind_wp
  iapply (stage_store (a := a3) (w := quant m c t) zero2) $$ H3
  iintro H3
  iapply pure_wp
  isplitl [HR]; · iexact HR
  isplitl [H1]; · iexact H1
  isplitl [H2]; · iexact H2
  iexact H3

/-- The windows' buffers at a point. -/
abbrev st1 (t : Fin grid1.N) (w : Fin 3) := (cfg1.win w).stage (cfg1.slots t w)

theorem hbody1 : Pipeline.BodyObligation (dat1 m c) defs₀ 𝒱₀ () Set.univ := fun t => by
  refine BIBase.Entails.trans (BIClass.sep_mono .rfl (BIClass.sep_mono .rfl (show _ ⊢ iprop((∃ d, owns (c : Thread nD τ) (st1 t 0) fullShare ((dat1 m c).before 0 t d))
    ∗ (∃ d, owns (c : Thread nD τ) (st1 t 1) fullShare ((dat1 m c).before 1 t d)) ∗ (∃ d, owns (c : Thread nD τ) (st1 t 2) fullShare ((dat1 m c).before 2 t d)))
      from Entails.of_eq (Gen.bigSep_W1 _)))) ?_
  refine BIBase.Entails.trans ?_ (wp_mono _ _ _ fun _ => BIClass.sep_mono (.rfl : (dat1 m c).Φ t.castSucc ⊢ (dat1 m c).Φ t.succ)
    (BIClass.sep_mono (.rfl : (dat1 m c).owesAt () t.castSucc ⊢ (dat1 m c).owesAt () t.succ)
      (Entails.of_eq (Gen.bigSep_W1 fun w => (dat1 m c).leavesExact w t).symm)))
  iintro ⟨HI, HO, ⟨%d0, H0⟩, ⟨%d1, H1⟩, ⟨%d2, H2⟩⟩
  ihave H0' := (Entails.of_eq (congrArg (owns (c : Thread nD τ) (st1 t 0) fullShare) (before1_0 m c t d0))) $$ H0
  ihave H1' := (Entails.of_eq (congrArg (owns (c : Thread nD τ) (st1 t 1) fullShare) (before1_1 m c t d1))) $$ H1
  iapply (show _ from (quant_point m c (i := grid1.coords t) (a1 := st1 t 0) (a2 := st1 t 1) (a3 := st1 t 2)
    (h1 := hstage1_0 ((cfg1.slots t 0).cast nbuf1_0)) (h2 := hstage1_1 ((cfg1.slots t 1).cast nbuf1_1)) (h3 := hstage1_2 ((cfg1.slots t 2).cast nbuf1_2))
    (R := iprop((dat1 m c).Φ t.castSucc ∗ (dat1 m c).owesAt () t.castSucc)) (pt8 t) (v := (dat1 m c).before 2 t d2)).trans (wp_mono _ _ _ fun _ => ?_)) $$ [HI HO H0' H1' H2]
  rotate_left
  · isplitl [HI HO]
    · isplitl [HI] <;> iassumption
    isplitl [H0']; · iexact H0'
    isplitl [H1']; · iexact H1'
    iexact H2
  · iintro ⟨⟨HI, HO⟩, H0, H1, H2⟩
    isplitl [HI]; · iexact HI
    isplitl [HO]; · iexact HO
    isplitl [H0]; · iexact H0
    isplitl [H1]; · iexact H1
    iexact H2

end Cert.KernelIdeal

end
-- ==== Proof.Segs.lean ====
/-
  The two calls as segments of the whole program: what a device holds before, between and after them.
-/
module

public import proofs.«01_k».proof.Proof.Region1
public import proofs.«01_k».proof.Proof.Gen.KernelIdeal.Regions

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (c : Dev nD)

/-- A buffer of a device, whole, at given contents. -/
abbrev at' (c : Dev nD) (b : Ref sig .tc) (f : Buf (Elt F) ((c : Thread nD τ).loc b)) : sProp 𝕄 :=
  iprop(((c : Thread nD τ).loc b) ↦{fullShare} f)

/-- The result of the second call. -/
def Out : Buf (Elt F) ((c : Thread nD τ).loc main_v10) :=
  show (⟨S4096x2048, .f32⟩ : BufTy).Contents (Elt F) from fun i =>
    quant m c (⟨(i 0).val / 512, by have := (i 0).isLt; have : (i 0).val < 4096 := this; omega⟩ : Fin 8)
      (ix2 ⟨(i 0).val % 512, Nat.mod_lt _ (by decide)⟩ (i 1))

/-- The gear of the first call without its positions. -/
def Tokens : sProp 𝕄 :=
  iprop(dutyTok ER (cell c kCopy) 0 0
    ∗ (bigSep Finset.univ fun x : Fin 3 × Fin 8 => iprop(dutyTok ER (cell c (kSend x)) 0 0 ∗ dutyTok ER (cell (peer c x.1.castSucc) (kRecv x)) 0 0))
    ∗ ((dutyTok ER (cell c (kASend 1)) 0 0 ∗ dutyTok ER (cell (c + dv 1) (kARecv 1)) 0 0)
      ∗ (dutyTok ER (cell c (kASend 2)) 0 0 ∗ dutyTok ER (cell (c + dv 2) (kARecv 2)) 0 0)
      ∗ (dutyTok ER (cell c (kASend 3)) 0 0 ∗ dutyTok ER (cell (c + dv 3) (kARecv 3)) 0 0))
    ∗ (bigSep Finset.univ fun x : Fin 3 × Fin 8 => cred (tallyAt (cell c (kRecv x)) () NC))
    ∗ (cred (tallyAt (cell c (kARecv 1)) () NA) ∗ cred (tallyAt (cell c (kARecv 2)) () NA) ∗ cred (tallyAt (cell c (kARecv 3)) () NA)))

theorem gear_eq : Gear (F := F) c = iprop((bigSep Finset.univ fun k : CK => atPos ER (cell c k) 0 ∅ 0) ∗ Tokens c) := rfl

/-- What a device holds for the exchange before the first call: its own cells not yet opened. -/
def Ghost : sProp 𝕄 :=
  iprop(∃ K, recs m K ∗ (bigSep Finset.univ fun k : CK => openTok ER (cell c k)) ∗ Tokens c ∗ BarGear c)

def Pre0 : sProp 𝕄 :=
  iprop((at' c main_arg0 (Gen.V1 m c main_arg0) ∗ at' c main_arg1 (Gen.V1 m c main_arg1) ∗ at' c main_v9_1 (Gen.V1 m c main_v9_1))
    ∗ tblPt (F := F) c ∗ anyAt (F := F) c main_v9_0 ∗ at' c main_v10 (m ((c : Thread nD τ).loc main_v10)) ∗ Ghost m c ∗ OW c (O₀ c))

def Mid0 : sProp 𝕄 :=
  iprop((at' c main_arg0 (X m c) ∗ at' c main_arg1 (W m c))
    ∗ (at' c main_v9_0 (Yx m c) ∗ at' c main_v9_1 (G m c) ∗ at' c main_v10 (m ((c : Thread nD τ).loc main_v10))) ∗ semVal (barCell c) 0 ∗ OW c 0)

def Post1 : sProp 𝕄 :=
  iprop((at' c main_arg0 (X m c) ∗ at' c main_arg1 (W m c)) ∗ at' c main_v10 (Out m c) ∗ semVal (barCell c) 0 ∗ OW c 0)

/-! ## The pipelines' tables and data -/

def adm : Dev nD → (p : Fin 2) → (pcfgs (F := F) p).Adm := fun c => fun
  | ⟨0, _⟩ => adm0 c
  | ⟨1, _⟩ => cfg1.toPCfg_adm
  | ⟨_ + 2, h⟩ => absurd h (Nat.not_lt.2 (Nat.le_add_left _ _))

abbrev cfgs (c : Dev nD) (p : Fin 2) := Pipeline.pinD (pcfgs (F := F)) (adm (F := F)) c p

def pdats : (p : Fin 2) → (c : Dev nD) → Pipeline.Dat τ (Elt F) Unit ℕ UU ℕ (cfgs (F := F) c p) c := fun
  | ⟨0, _⟩ => fun c => dat0 m c
  | ⟨1, _⟩ => fun c => dat1 m c
  | ⟨_ + 2, h⟩ => absurd h (Nat.not_lt.2 (Nat.le_add_left _ _))

theorem arrays0 (f : (w : Fin 3) → Buf (Elt F) ((c : Thread nD τ).loc (Pipeline.arrRef spec0 w))) :
    (dat0 m c).arrays f = iprop(at' c main_arg0 (f 0) ∗ at' c main_arg1 (f 1) ∗ at' c main_v9_1 (f 2)) := by
  refine (bigSep_congr fun w _ => ?_ : (dat0 m c).arrays f = bigSep Finset.univ fun w : Fin 3 => at' c (Pipeline.arrRef spec0 w) (f w)).trans (Gen.bigSep_W0 _)
  have h := (Gen.arr_whole0 w).set_eq_univ
  have e : (dat0 m c).share w = fullShare := by unfold Pipeline.Dat.share; split <;> rfl
  rw [e]
  exact congrArg (fun S => (pointsTo (((c : Thread nD τ).loc (Pipeline.arrRef spec0 w))) S fullShare (f w) : sProp 𝕄)) h

theorem arrays1 (f : (w : Fin 3) → Buf (Elt F) ((c : Thread nD τ).loc (Pipeline.arrRef spec1 w))) :
    (dat1 m c).arrays f = iprop(at' c main_v9_0 (f 0) ∗ at' c main_v9_1 (f 1) ∗ at' c main_v10 (f 2)) := by
  refine (bigSep_congr fun w _ => ?_ : (dat1 m c).arrays f = bigSep Finset.univ fun w : Fin 3 => at' c (Pipeline.arrRef spec1 w) (f w)).trans (Gen.bigSep_W1 _)
  have h := (Gen.arr_whole1 w).set_eq_univ
  have e : (dat1 m c).share w = fullShare := by unfold Pipeline.Dat.share; split <;> rfl
  rw [e]
  exact congrArg (fun S => (pointsTo (((c : Thread nD τ).loc (Pipeline.arrRef spec1 w))) S fullShare (f w) : sProp 𝕄)) h

/-! ## What the arrays end with -/

theorem whole0 : ((cfg0 (adm0 (F := F) c)).win 2).WholeAt (⟨31, by rw [Gen.N_0]; decide⟩ : Fin grid0.N) := by
  refine ⟨(flush0_2 c _).mpr rfl, fun t h => Fin.ext ?_, fun a => ?_⟩
  · have h1 := (flush0_2 c t).mp h
    have hN : t.val < 32 := Gen.N_0 ▸ t.isLt
    show t.val = 31
    omega
  · revert a
    exact fun | (0 : Fin 2) => ⟨rfl, rfl⟩ | (1 : Fin 2) => ⟨rfl, rfl⟩

theorem final0_2 : (dat0 m c).arrAt 2 (cfg0 (adm0 (F := F) c)).N = G m c :=
  (dat0 m c).arrAt_eq_of_after_last 2 (⟨31, by rw [Gen.N_0]; decide⟩ : Fin grid0.N) (whole0 c) (G m c) (fun _ => rfl)

theorem final0_0 : (dat0 m c).arrAt 0 (cfg0 (adm0 (F := F) c)).N = X m c :=
  ((dat0 m c).arrAt_in 0 rfl _).trans (V1_arg0 m c)
theorem final0_1 : (dat0 m c).arrAt 1 (cfg0 (adm0 (F := F) c)).N = W m c :=
  ((dat0 m c).arrAt_in 1 rfl _).trans (V1_arg1 m c)

theorem final1_0 : (dat1 m c).arrAt 0 cfg1.N = Yx m c := (dat1 m c).arrAt_in 0 rfl _
theorem final1_1 : (dat1 m c).arrAt 1 cfg1.N = G m c := (dat1 m c).arrAt_in 1 rfl _

theorem final1_2 : (dat1 m c).arrAt 2 cfg1.N = Out m c := by
  refine (dat1 m c).arrAt_eq_of_covers 2 (Out m c) (by decide +kernel) fun t hf y => ?_
  show quant m c (pt8 t) y = Out m c (((cfg1.win 2).blk t).view.emb y)
  have e : (cfg1.win 2).index t = _ := index1_2 t
  have h0 : ((((cfg1.win 2).blk t).view.emb y) 0).val = t.val * 512 + (y 0).val := by
    refine (Pipeline.Window.rect_emb_val_off (cfg1.win 2) t y 0).trans ?_
    rw [e]; rfl
  have h1 : ((((cfg1.win 2).blk t).view.emb y) 1).val = (y 1).val := by
    refine (Pipeline.Window.rect_emb_val_off (cfg1.win 2) t y 1).trans ?_
    rw [e]
    show 0 * 2048 + (y 1).val = (y 1).val; omega
  have hy : (y 0).val < 512 := (y 0).isLt
  unfold Out
  have ht (h) : (⟨((((cfg1.win 2).blk t).view.emb y) 0).val / 512, h⟩ : Fin 8) = pt8 t := Fin.ext (by show _ / 512 = t.val; rw [h0]; omega)
  show _ = quant m c ⟨_, _⟩ (ix2 ⟨((((cfg1.win 2).blk t).view.emb y) 0).val % 512, _⟩ ((((cfg1.win 2).blk t).view.emb y) 1))
  rw [ht]
  refine congrArg (quant m c (pt8 t)) (funext fun a => Fin.ext ?_)
  revert a
  refine fun | (0 : Fin 2) => ?_ | (1 : Fin 2) => ?_
  · show (y 0).val = ((((cfg1.win 2).blk t).view.emb y) 0).val % 512; rw [h0]; omega
  · exact h1.symm

/-! ## The first call -/

theorem above_rest (t : ℕ) : Above 1 (owedC c t + owedA c) :=
  ((above_owedC c t).mono (by decide)).add ((above_owedA c).mono (by decide))

theorem above_owe (t : ℕ) : Above 1 (Owe c t) := by
  by_cases h0 : t = 0
  · rw [h0, owe_zero]; exact above_O₀ c
  by_cases h1 : t = 32
  · intro g u hp
    rw [h1, owe_last, Pi.zero_apply, Finsupp.zero_apply] at hp
    exact absurd hp (Nat.lt_irrefl 0)
  · rw [owe_mid c h0 h1]; exact above_rest c t

theorem lv_stage : ∀ (w : Fin 3) (s : Fin (spec0 w).nbuf), kOf ((spec0 w).sem s) = none := by decide +kernel

theorem stage_wait (w : Fin 3) (s : Fin (spec0 w).nbuf) (t : ℕ) :
    (levAts L lv : sProp 𝕄) ⊢ MayWait (c : Thread nD τ) (.dma ((spec0 w).sem s)) () (Owe c t) := by
  have hl : lv ((c : Thread nD τ), .dma ((spec0 w).sem s)) () = 0 := by
    show (match kOf ((spec0 w).sem s) with
      | some (.inr (.inl (.inr _))) => 2
      | some (.inr (.inr (.inr _))) => 2
      | _ => 0) = 0
    rw [lv_stage w s]
  exact MayOwe.of_cut (L := L) (lev := lv) 0
    (fun p hp => by rw [Finset.mem_singleton.mp hp, L_tc]; exact Finset.mem_singleton_self _)
    (fun g i hg => (above_owe c t g i hg).1)
    (fun p hp => by rw [Finset.mem_singleton.mp hp]; exact hl.le)
    (fun g i hg => (above_owe c t g i hg).2)

theorem waits0 : (levAts L lv : sProp 𝕄) ⊢ Pipeline.PerCore.cellsWaits (cfgs (F := F)) (pdats m) () 0 c :=
  Pipeline.PerCore.cellsWaits_intro (cfgs (F := F)) (pdats m) () 0 c fun w s t => stage_wait c w s t.val

theorem own0 : (Pipeline.ownSems0 osem0 c : sProp 𝕄) = bigSep Finset.univ fun k : CK => semVal (cell c k) 0 := rfl

theorem pref0 : (Pipeline.prefHeld pre0 c (fun _ => fullShare) (tblP (F := F) c) : sProp 𝕄) = tblPt c :=
  bigSep_univ_eq_bigSepL [0] (by decide) (by decide) _

/-- Every cell of a device opened. -/
theorem open_all (K : GSem nD τ sig → ℕ) :
    iprop(recs m K ∗ (bigSep Finset.univ fun k : CK => openTok ER (cell c k)) ∗ (bigSep Finset.univ fun k : CK => semVal (cell c k) 0))
    ⊢ |={Set.univ}=> iprop((bigSep Finset.univ fun k : CK => atPos ER (cell c k) 0 ∅ 0) ∗ reachedAll (F := F) c) := by
  have one (k : CK) : iprop(recs m K ∗ (openTok ER (cell c k) ∗ semVal (cell c k) 0))
      ⊢ |={Set.univ}=> iprop(atPos ER (cell c k) 0 ∅ 0 ∗ reached ER (cell c k) 0) := by
    iintro ⟨#HR, HO, HS⟩
    iapply (Rounds.cell_open ER (Rd m) (g := cell c k) (Set.mem_univ (K (cell c k))))
    isplitr; · iapply (recs_cell m K c k) $$ HR
    isplitl [HO] <;> iassumption
  iintro ⟨#HR, HO, HS⟩
  ihave H := (Entails.of_eq (bigSep_sep' (s := Finset.univ) (fun k : CK => (openTok ER (cell c k) : sProp 𝕄)) (fun k => semVal (cell c k) 0)).symm) $$ [HO HS]
  · isplitl [HO] <;> iassumption
  unfold reachedAll
  ihave H' := (bigSep_with_persistent (S := Finset.univ) (R := recs m K) fun (k : CK) _ => one k) $$ [H]
  · isplitr; · iexact HR
    iexact H
  imod (bigSep_fupd Finset.univ fun k : CK => iprop(atPos ER (cell c k) 0 ∅ 0 ∗ reached ER (cell c k) 0)) $$ H' with H
  imodintro
  iapply (Entails.of_eq (bigSep_sep' (s := Finset.univ) (fun k : CK => (atPos ER (cell c k) 0 ∅ 0 : sProp 𝕄)) (fun k => reached ER (cell c k) 0))) $$ H

/-- What enters the first call's invariant, and what its invariant gives back. -/
def In0 : sProp 𝕄 := iprop(∃ K, recs m K ∗ reachedAll c ∗ levAts L lv ∗ Gear c ∗ BarGear c ∗ anyAt (F := F) c main_v9_0)
def Back0 : sProp 𝕄 := iprop(tblPt (F := F) c ∗ at' c main_v9_0 (Yx m c) ∗ semVal (barCell c) 0)
def Side0 : sProp 𝕄 := at' c main_v10 (m ((c : Thread nD τ).loc main_v10))

theorem entry0 : iprop(Pre0 m c ∗ Pipeline.ownSems0 osem0 c ∗ levAts L lv)
    ⊢ |={Set.univ}=> iprop((dat0 m c).arrays ((dat0 m c).arrAt · 0) ∗ Pipeline.prefHeld pre0 c (fun _ => fullShare) (tblP (F := F) c)
        ∗ (dat0 m c).owesAt () 0 ∗ In0 m c ∗ Side0 m c) := by
  rw [arrays0, pref0, own0]
  unfold Pre0 Ghost In0 Side0
  iintro ⟨⟨HA, HT, H9, HV, ⟨%K, #HR, HO, HG, HB⟩, HW⟩, HS, #HL⟩
  imod (open_all m c K) $$ [HO HS] with ⟨HP, HRe⟩
  · isplitr; · iexact HR
    isplitl [HO]; · iexact HO
    iexact HS
  imodintro
  isplitl [HA]; · iexact HA
  isplitl [HT]; · iexact HT
  isplitl [HW]; · iapply (owe_give m c 0) $$ [HW]; rw [show ((0 : Fin (grid0.N + 1)).val) = 0 from rfl, owe_zero]; iexact HW
  isplitr [HV]
  · iexists K
    isplitr; · iexact HR
    isplitl [HRe]; · iexact HRe
    isplitr; · iexact HL
    isplitl [HP HG]
    · rw [gear_eq]; isplitl [HP] <;> iassumption
    isplitl [HB] <;> iassumption
  iexact HV

theorem in0 : iprop(In0 m c ∗ Pipeline.prefHeld pre0 c (fun _ => fullShare) (tblP (F := F) c) ∗ Pipeline.scopedRest spec0 c) ⊢ (dat0 m c).Φ 0 := by
  rw [pref0, Gen.scopedRest0_eq]
  refine BIBase.Entails.trans ?_ (show Inv m c 0 ⊢ (dat0 m c).Φ 0 from .rfl)
  rw [inv_zero]
  unfold In0 Start Idle
  iintro ⟨⟨%K, H⟩, HT, ⟨H0, H2, H3, I0, I1, I2, I3, I4, H1⟩⟩
  isplitr [I0 I1 I2 I3 I4]
  · iexists K
    isplitl [H]; · iexact H
    isplitl [HT]; · iexact HT
    isplitl [H0]; · iexact H0
    isplitl [H2]; · iexact H2
    isplitl [H3]; · iexact H3
    iexact H1
  isplitl [I0]; · iexact I0
  isplitl [I1]; · iexact I1
  isplitl [I2]; · iexact I2
  isplitl [I3]; · iexact I3
  iexact I4

theorem out0 : (dat0 m c).Φ (Fin.last grid0.N) ⊢ iprop(Back0 m c ∗ Pipeline.ownSems0 osem0 c ∗ Pipeline.scopedRest spec0 c) := by
  rw [Gen.scopedRest0_eq, own0]
  refine BIBase.Entails.trans (show (dat0 m c).Φ (Fin.last grid0.N) ⊢ Inv m c grid0.N from .rfl) ?_
  rw [Gen.N_0, inv_last]
  unfold End Idle Back0
  iintro ⟨⟨HB, HS, H0, H2, H3, H1⟩, I0, I1, I2, I3, I4⟩
  isplitl [HB]; · iexact HB
  isplitl [HS]; · iexact HS
  isplitl [H0]; · iexact H0
  isplitl [H2]; · iexact H2
  isplitl [H3]; · iexact H3
  isplitl [I0]; · iexact I0
  isplitl [I1]; · iexact I1
  isplitl [I2]; · iexact I2
  isplitl [I3]; · iexact I3
  isplitl [I4]; · iexact I4
  iexact H1

theorem owe_end0 : (dat0 m c).owesAt () (Fin.last grid0.N) ⊢ OW c 0 := by
  have e : Owe c (Fin.last grid0.N).val = 0 := by rw [show (Fin.last grid0.N).val = 32 from Gen.N_0, owe_last]
  rw [← e]; exact owe_take m c _

theorem exit0 : iprop((dat0 m c).arrays ((dat0 m c).arrAt · (cfg0 (adm0 (F := F) c)).N) ∗ (dat0 m c).owesAt () (Fin.last grid0.N) ∗ Back0 m c ∗ Side0 m c)
    ⊢ |={Set.univ}=> Mid0 m c := by
  rw [arrays0, final0_0, final0_1, final0_2]
  unfold Back0 Side0 Mid0
  iintro ⟨⟨H0, H1, H2⟩, HO, ⟨-, HY, HB⟩, HV⟩
  ihave HO' := (owe_end0 m c) $$ HO
  imodintro
  isplitl [H0 H1]
  · isplitl [H0] <;> iassumption
  isplitl [HY H2 HV]
  · isplitl [HY]; · iexact HY
    isplitl [H2] <;> iassumption
  isplitl [HB] <;> iassumption

def seg1 : Pipeline.PerCore.RegionSeg (pcfgs (F := F)) adm (pdats m) () defs₀ 𝒱₀ L lv 0 where
  win := Gen.winFacts0.to₀
  block_pos := Gen.block_pos0
  stage_whole := Gen.stage_whole0
  K := CK
  osem := osem0
  ho := (by decide +kernel : Pipeline.OwnSemFacts spec0 osem0)
  hbody c := (hbody0 m c).loose
  hwaits := waits0 m
  pre := Pre0 m
  post := Mid0 m
  X := In0 m
  Y := Back0 m
  Z := Side0 m
  hentry := entry0 m
  hin := in0 m
  hout := out0 m
  hexit := exit0 m

/-! ## The second call -/

def Side1 : sProp 𝕄 := iprop((at' c main_arg0 (X m c) ∗ at' c main_arg1 (W m c)) ∗ semVal (barCell c) 0)

theorem owe1_take (t : Fin (grid1.N + 1)) : (dat1 m c).owesAt () t ⊢ OW c 0 := TalkSites.owesAt_elim (dat1 m c) () t _ rfl
theorem owe1_give (t : Fin (grid1.N + 1)) : OW c 0 ⊢ (dat1 m c).owesAt () t := by
  iintro ⟨%W, H⟩
  iapply (TalkSites.owesAt_intro (dat1 m c) () t 0 rfl rfl W) $$ H

theorem pref1 : (Pipeline.prefHeld (pcfgs (F := F) 1).pre c (fun _ => fullShare) (adm (F := F) c 1).1 : sProp 𝕄) = iprop(emp) :=
  Pipeline.prefHeld_of_none (pcfgs (F := F) 1).pre rfl c _ _

theorem entry1 : iprop(Mid0 m c ∗ Pipeline.ownSems0 (fun k : PEmpty => (k.elim : SemLoc sig)) c ∗ levAts L lv)
    ⊢ |={Set.univ}=> iprop((dat1 m c).arrays ((dat1 m c).arrAt · 0) ∗ Pipeline.prefHeld (pcfgs (F := F) 1).pre c (fun _ => fullShare) (adm (F := F) c 1).1
        ∗ (dat1 m c).owesAt () 0 ∗ emp ∗ Side1 m c) := by
  rw [arrays1, pref1]
  unfold Mid0 Side1
  iintro ⟨⟨HA, H9, HB, HW⟩, -, -⟩
  imodintro
  isplitl [H9]; · iexact H9
  isplitr; · iempintro
  isplitl [HW]; · iapply (owe1_give m c 0) $$ HW
  isplitr; · iempintro
  isplitl [HA] <;> iassumption

theorem in1 : iprop(emp ∗ Pipeline.prefHeld (pcfgs (F := F) 1).pre c (fun _ => fullShare) (adm (F := F) c 1).1 ∗ Pipeline.scopedRest cfg1.spec c)
    ⊢ (dat1 m c).Φ 0 := by
  refine BIBase.Entails.trans ?_ (show Pipeline.scopedRest cfg1.spec c ⊢ (dat1 m c).Φ 0 from .rfl)
  iintro ⟨-, -, H⟩
  iexact H

theorem out1 : (dat1 m c).Φ (Fin.last grid1.N)
    ⊢ iprop(emp ∗ Pipeline.ownSems0 (fun k : PEmpty => (k.elim : SemLoc sig)) c ∗ Pipeline.scopedRest cfg1.spec c) := by
  refine BIBase.Entails.trans (show (dat1 m c).Φ (Fin.last grid1.N) ⊢ Pipeline.scopedRest cfg1.spec c from .rfl) ?_
  rw [Pipeline.ownSems0_none]
  iintro H
  isplitr; · iempintro
  isplitr; · iempintro
  iexact H

theorem exit1 : iprop((dat1 m c).arrays ((dat1 m c).arrAt · cfg1.N) ∗ (dat1 m c).owesAt () (Fin.last grid1.N) ∗ emp ∗ Side1 m c)
    ⊢ |={Set.univ}=> Post1 m c := by
  rw [arrays1, final1_2]
  unfold Side1 Post1
  iintro ⟨⟨-, -, H2⟩, HO, -, HA, HB⟩
  ihave HO' := (owe1_take m c (Fin.last grid1.N)) $$ HO
  imodintro
  isplitl [HA]; · iexact HA
  isplitl [H2]; · iexact H2
  isplitl [HB] <;> iassumption

def seg2 : Pipeline.PerCore.RegionSeg (pcfgs (F := F)) adm (pdats m) () defs₀ 𝒱₀ L lv 1 where
  win := Gen.winFacts1.to₀
  block_pos := Gen.block_pos1
  stage_whole := Gen.stage_whole1
  K := PEmpty
  osem k := k.elim
  ho := Pipeline.OwnSemFacts.none _
  hbody c := (hbody1 m c).loose
  hwaits := Pipeline.PerCore.hwaits_of_owed_zero (pcfgs (F := F)) adm (pdats m) () L lv 1 (fun _ _ => rfl)
  pre := Mid0 m
  post := Post1 m
  X _ := iprop(emp)
  Y _ := iprop(emp)
  Z := Side1 m
  hentry := entry1 m
  hin := in1 m
  hout := out1 m
  hexit := exit1 m

end Cert.KernelIdeal

end
-- ==== Proof.Deal.lean ====
/-
  What the launch deals: the rights to increment every cell, handed to the devices that use them, and the
  units each device is to be sent.
-/
module

public import proofs.«01_k».proof.Proof.Segs

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (c : Dev nD)

/-! ## The rights -/

/-- The device whose cell of a kind a device increments. -/
def goal (c : Dev nD) : CK → Dev nD
  | .inr (.inl (.inr x)) => peer c x.1.castSucc
  | .inr (.inr (.inr d)) => c + dv d
  | _ => c

theorem goal_inj : ∀ (k : CK) (a b : Dev nD), goal a k = goal b k → a = b := by decide +kernel

/-- The rights a device is dealt: one for each other device's barrier cell, one for each kind of cell. -/
def right (x : Dev nD × (Fin 3 ⊕ CK)) : GSem nD τ sig × ℕ × Dev nD :=
  match x.2 with
  | .inl i => (barCell (x.1 + dv i.succ), 0, x.1)
  | .inr k => (cell (goal x.1 k) k, 0, 0)

theorem cell_inj {a b : Dev nD} {k l : CK} (h : cell a k = cell b l) : a = b ∧ k = l :=
  ⟨congrArg (fun g : GSem nD τ sig => g.1.1) h, dmaNo_inj (SemLoc.dma.inj (congrArg (fun g : GSem nD τ sig => g.2) h))⟩

theorem bar_inj {a b : Dev nD} (h : barCell a = barCell b) : a = b := congrArg (fun g : GSem nD τ sig => g.1.1) h

theorem bar_ne_cell {a b : Dev nD} {k : CK} : barCell a ≠ cell b k := fun h => by cases congrArg (fun g : GSem nD τ sig => g.2) h

theorem shift_inj : ∀ (a : Dev nD) (i j : Fin 3), a + dv i.succ = a + dv j.succ → i = j := by decide

theorem right_inj : Function.Injective right := by
  rintro ⟨a, i | k⟩ ⟨b, j | l⟩ h
  · have h2 : a = b := congrArg (fun x : GSem nD τ sig × ℕ × Dev nD => x.2.2) h
    subst h2
    rw [shift_inj a i j (bar_inj (congrArg Prod.fst h))]
  · exact absurd (congrArg Prod.fst h) bar_ne_cell
  · exact absurd (congrArg Prod.fst h).symm bar_ne_cell
  · obtain ⟨h1, rfl⟩ := cell_inj (congrArg Prod.fst h)
    rw [goal_inj k a b h1]

def rights : Finset (GSem nD τ sig × ℕ × Dev nD) := Finset.univ.map ⟨right, right_inj⟩

/-- A device's rights. -/
def Rights : sProp 𝕄 :=
  iprop((dutyTok ER (barCell (c + dv 1)) 0 c ∗ dutyTok ER (barCell (c + dv 2)) 0 c ∗ dutyTok ER (barCell (c + dv 3)) 0 c)
    ∗ dutyTok ER (cell c kCopy) 0 0
    ∗ ((bigSep Finset.univ fun x : Fin 3 × Fin 8 => dutyTok ER (cell c (kSend x)) 0 0)
      ∗ (bigSep Finset.univ fun x : Fin 3 × Fin 8 => dutyTok ER (cell (peer c x.1.castSucc) (kRecv x)) 0 0))
    ∗ (bigSep Finset.univ fun d : Fin 4 => dutyTok ER (cell c (kASend d)) 0 0)
    ∗ (bigSep Finset.univ fun d : Fin 4 => dutyTok ER (cell (c + dv d) (kARecv d)) 0 0))

theorem rights_eq : (bigSep rights fun x => dutyTok ER x.1 x.2.1 x.2.2 : sProp 𝕄) = bigSep Finset.univ fun c : Dev nD => Rights c := by
  unfold rights
  rw [bigSep_map, bigSep_univ_prod]
  refine bigSep_congr fun c _ => ?_
  rw [bigSep_univ_sum, bigSep_univ_sum, bigSep_univ_sum, bigSep_univ_sum, bigSep_univ_sum, sep_three, sep_one]
  rfl

/-! ## The units -/

/-- What device `d` owes at a cell of device `c`. -/
def oweAt (d c : Dev nD) (k : CK) : ℕ :=
  (∑ x : Fin 3 × Fin 8, if c = peer d x.1.castSucc ∧ k = kRecv x then NC else 0)
    + ((if c = d + 1 ∧ k = kARecv 1 then NA else 0) + ((if c = d + 2 ∧ k = kARecv 2 then NA else 0) + (if c = d + 3 ∧ k = kARecv 3 then NA else 0)))

theorem tally_cell (a b : Dev nD) (k l : CK) (n : ℕ) :
    (tallyAt (cell b l) () n : CellTallies nD τ sig Unit) (cell a k) () = if a = b ∧ k = l then n else 0 := by
  rw [tallyAt_apply]
  by_cases h : a = b ∧ k = l
  · rw [if_pos h, if_pos ⟨by rw [h.1, h.2], rfl⟩]
  · rw [if_neg h, if_neg fun e => h (cell_inj e.1)]

theorem tally_bar (a b : Dev nD) (n : ℕ) :
    (tallyAt (barCell b) () n : CellTallies nD τ sig Unit) (barCell a) () = if a = b then n else 0 := by
  rw [tallyAt_apply]
  by_cases h : a = b
  · rw [if_pos h, if_pos ⟨by rw [h], rfl⟩]
  · rw [if_neg h, if_neg fun e => h (bar_inj e.1)]

theorem tally_bar_cell (a b : Dev nD) (k : CK) (n : ℕ) :
    (tallyAt (cell b k) () n : CellTallies nD τ sig Unit) (barCell a) () = 0 := by
  rw [tallyAt_apply, if_neg fun e => bar_ne_cell e.1]

theorem tally_cell_bar (a b : Dev nD) (k : CK) (n : ℕ) :
    (tallyAt (barCell b) () n : CellTallies nD τ sig Unit) (cell a k) () = 0 := by
  rw [tallyAt_apply, if_neg fun e => bar_ne_cell e.1.symm]

theorem owed_cell (d : Dev nD) (k : CK) : O₀ d (cell c k) () = oweAt d c k := by
  unfold O₀ owedB owedC owedA oweAt
  simp only [Pi.add_apply, Finsupp.add_apply, Finset.sum_apply, Finsupp.finset_sum_apply, tally_cell, tally_cell_bar, Nat.zero_le, if_true, Nat.zero_add]

theorem owed_bar (d : Dev nD) : O₀ d (barCell c) () = (if c = d + 1 then 1 else 0) + ((if c = d + 2 then 1 else 0) + (if c = d + 3 then 1 else 0)) := by
  unfold O₀ owedB owedC owedA
  simp only [Pi.add_apply, Finsupp.add_apply, Finset.sum_apply, Finsupp.finset_sum_apply, tally_bar, tally_bar_cell, Nat.zero_le, if_true, Finset.sum_const_zero, Nat.add_zero]

theorem sum_bar : ∀ c : Dev nD, ∑ d : Dev nD, ((if c = d + 1 then 1 else 0) + ((if c = d + 2 then 1 else 0) + (if c = d + 3 then 1 else 0))) = 3 := by decide
theorem sum_recv : ∀ (c : Dev nD) (x : Fin 3 × Fin 8), ∑ d : Dev nD, oweAt d c (kRecv x) = NC := by decide +kernel
theorem sum_arecv : ∀ (c : Dev nD) (i : Fin 3), ∑ d : Dev nD, oweAt d c (kARecv i.succ) = NA := by decide +kernel

theorem credit_at {g : GSem nD τ sig} {n : ℕ} (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The cells a device is owed units at. -/
def due : Unit ⊕ ((Fin 3 × Fin 8) ⊕ Fin 3) → SemLoc sig
  | .inl _ => .reg barrier0
  | .inr (.inl x) => osem0 (kRecv x)
  | .inr (.inr i) => osem0 (kARecv i.succ)

theorem due_inj : Function.Injective due := by
  rintro (_ | x | i) (_ | y | j) h
  · rfl
  · cases h
  · cases h
  · cases h
  · have h' := dmaNo_inj (SemLoc.dma.inj h)
    cases h'; rfl
  · have h' := dmaNo_inj (SemLoc.dma.inj h)
    cases h'
  · cases h
  · have h' := dmaNo_inj (SemLoc.dma.inj h)
    cases h'
  · have h' : kARecv i.succ = kARecv j.succ := dmaNo_inj (SemLoc.dma.inj h)
    rw [Fin.succ_inj.mp (Sum.inr.inj (Sum.inr.inj (Sum.inr.inj h')))]

/-- A device's units. -/
def Units : sProp 𝕄 :=
  iprop(cred (tallyAt (barCell c) () 3)
    ∗ (bigSep Finset.univ fun x : Fin 3 × Fin 8 => cred (tallyAt (cell c (kRecv x)) () NC))
    ∗ (cred (tallyAt (cell c (kARecv 1)) () NA) ∗ cred (tallyAt (cell c (kARecv 2)) () NA) ∗ cred (tallyAt (cell c (kARecv 3)) () NA)))

theorem units : (Pipeline.launchCred O₀ c : sProp 𝕄) ⊢ Units c := by
  unfold Pipeline.launchCred
  refine BIBase.Entails.trans (bigSep_subset (Finset.subset_univ (Finset.univ.map ⟨due, due_inj⟩))) (Entails.of_eq ?_)
  rw [bigSep_map, bigSep_univ_sum, bigSep_univ_sum, sep_one, sep_three]
  have h0 := congrArg (fun T : CellTallies nD τ sig Unit => (cred T : sProp 𝕄))
    (credit_at (g := barCell c) ((Finset.sum_congr rfl fun d _ => owed_bar c d).trans (sum_bar c)))
  have h1 (x : Fin 3 × Fin 8) := congrArg (fun T : CellTallies nD τ sig Unit => (cred T : sProp 𝕄))
    (credit_at (g := cell c (kRecv x)) ((Finset.sum_congr rfl fun d _ => owed_cell c d _).trans (sum_recv c x)))
  have h2 (i : Fin 3) := congrArg (fun T : CellTallies nD τ sig Unit => (cred T : sProp 𝕄))
    (credit_at (g := cell c (kARecv i.succ)) ((Finset.sum_congr rfl fun d _ => owed_cell c d _).trans (sum_arecv c i)))
  exact congrArg₂ BI.sep h0 (congrArg₂ BI.sep (bigSep_congr fun x _ => h1 x) (congrArg₂ BI.sep (h2 0) (congrArg₂ BI.sep (h2 1) (h2 2))))

end Cert.KernelIdeal

end
-- ==== Proof.Launch.lean ====
/-
  The launch of the four devices and the run of the whole program.
-/
module

public import proofs.«01_k».proof.Proof.Deal
public import Idealize.ShloMosaic.Lib.Quiescent

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (c : Dev nD)

/-! ## The launch element -/

theorem bars_cells : Disjoint barCells scCells := by
  rw [Finset.disjoint_left]
  intro g hb hc
  obtain ⟨a, -, rfl⟩ := Finset.mem_map.mp hb
  obtain ⟨x, -, h⟩ := Finset.mem_map.mp hc
  exact bar_ne_cell h.symm

theorem stage_apart : ∀ (w : Fin 3) (w' : Fin 3), ∀ (s : Fin (spec0 w).nbuf) (s' : Fin (spec1 w').nbuf), (spec0 w).sem s ≠ (spec1 w').sem s' := by
  decide +kernel
theorem stage_own0 : Pipeline.SpecSemsDistinct spec0 := by decide +kernel
theorem stage_own1 : Pipeline.SpecSemsDistinct spec1 := by decide +kernel

/-- The staging cells of the two calls are pairwise distinct. -/
theorem stage_inj : Function.Injective (Pipeline.PerCore.cellOf (nD := nD) (τ := τ) (cfgs (F := F))) :=
  Pipeline.PerCore.cellOf_injective (cfgs (F := F))
    (fun _ => fun
      | ⟨0, _⟩ => stage_own0
      | ⟨1, _⟩ => stage_own1
      | ⟨_ + 2, h⟩ => absurd h (Nat.not_lt.2 (Nat.le_add_left _ _)))
    (fun _ => fun
      | ⟨0, _⟩, ⟨0, _⟩, h => absurd rfl h
      | ⟨0, _⟩, ⟨1, _⟩, _ => stage_apart
      | ⟨1, _⟩, ⟨0, _⟩, _ => fun w w' s s' e => stage_apart w' w s' s e.symm
      | ⟨1, _⟩, ⟨1, _⟩, h => absurd rfl h
      | ⟨_ + 2, h⟩, _, _ => absurd h (Nat.not_lt.2 (Nat.le_add_left _ _))
      | _, ⟨_ + 2, h⟩, _ => absurd h (Nat.not_lt.2 (Nat.le_add_left _ _)))

def start : UU :=
  (initOf (Pipeline.PerCore.cells (cfgs (F := F)) stage_inj) (Pipeline.PerCore.launchToks (cfgs (F := F)) stage_inj),
    launchOf barCells scCells rights)

/-- The protocol's share of the launch element. -/
def Seed : sProp 𝕄 := BI.own (ER (launchOf barCells scCells rights))

/-- The seed, kept by the first device until all devices' holdings are set up together. -/
def Park (c : Dev nD) : sProp 𝕄 := if c = 0 then Seed else iprop(emp)

theorem park_all : bigSep Finset.univ (Park (F := F)) = Seed := by
  rw [bigSep_univ_at _ (0 : Dev nD), bigSep_congr (s := Finset.univ.erase (0 : Dev nD)) (Φ := Park (F := F)) (Ψ := fun _ => (BI.emp : sProp 𝕄))
    fun c hc => if_neg (Finset.ne_of_mem_erase hc), BI.bigSep_emp_const]
  exact (congrArg (fun P => BI.sep P BI.emp) (if_pos rfl : Park (F := F) 0 = Seed)).trans (BI.equiv_iff.mp sep_emp)

/-! ## What each device starts with -/

def T₀ (c : Dev nD) : sProp 𝕄 :=
  iprop(StableHlo.held (c : Thread nD τ) (Pipeline.ucRefs τ sig) (Gen.V0 m c) ∗ Ghost m c ∗ OW c (O₀ c))

/-- What a device's own launch holdings give. -/
def Own (c : Dev nD) : sProp 𝕄 :=
  iprop(StableHlo.held (c : Thread nD τ) (Pipeline.ucRefs τ sig) (Gen.V0 m c) ∗ Units c ∗ OW c (O₀ c))

/-- What the setting up gives a device. -/
def Share (c : Dev nD) : sProp 𝕄 :=
  iprop(atPos ER (barCell c) 0 ∅ 0 ∗ (bigSep Finset.univ fun k : CK => openTok ER (cell c k)) ∗ Rights c)

theorem four (f : Fin 4 → sProp 𝕄) : bigSep Finset.univ f ⊢ iprop(f 1 ∗ f 2 ∗ f 3) := by
  rw [sep_four]
  iintro ⟨-, H1, H2, H3⟩
  isplitl [H1]; · iexact H1
  isplitl [H2] <;> iassumption

theorem T₀_intro (K : GSem nD τ sig → ℕ) (c : Dev nD) : iprop(recs m K ∗ (Share c ∗ Own m c)) ⊢ T₀ m c := by
  unfold Share Own T₀ Ghost Tokens BarGear Rights Units
  iintro ⟨#HR, ⟨HP, HO, ⟨B1, B2, B3⟩, TC, ⟨TS, TR⟩, AS, AR⟩, HH, ⟨CB, CR, CA⟩, HW⟩
  ihave AS' := (four (F := F) fun d => dutyTok ER (cell c (kASend d)) 0 0) $$ AS
  ihave AR' := (four (F := F) fun d => dutyTok ER (cell (c + dv d) (kARecv d)) 0 0) $$ AR
  icases AS' with ⟨S1, S2, S3⟩
  icases AR' with ⟨R1, R2, R3⟩
  isplitl [HH]; · iexact HH
  isplitr [HW]
  · iexists K
    isplitr; · iexact HR
    isplitl [HO]; · iexact HO
    isplitr [HP B1 B2 B3 CB]
    · isplitl [TC]; · iexact TC
      isplitl [TS TR]
      · iapply (Entails.of_eq (bigSep_sep' (s := Finset.univ) (fun x : Fin 3 × Fin 8 => (dutyTok ER (cell c (kSend x)) 0 0 : sProp 𝕄)) (fun x => dutyTok ER (cell (peer c x.1.castSucc) (kRecv x)) 0 0)).symm)
        isplitl [TS] <;> iassumption
      isplitl [S1 S2 S3 R1 R2 R3]
      · isplitl [S1 R1]; · isplitl [S1] <;> iassumption
        isplitl [S2 R2]; · isplitl [S2] <;> iassumption
        isplitl [S3] <;> iassumption
      isplitl [CR]; · iexact CR
      iexact CA
    isplitl [HP]; · iexact HP
    isplitl [CB]; · iexact CB
    isplitl [B1]; · iexact B1
    isplitl [B2] <;> iassumption
  iexact HW

theorem bar_only (c : Dev nD) : (unscopedSems0 c : sProp 𝕄) = semVal (barCell c) 0 := by
  unfold unscopedSems0
  rw [show (Finset.univ.filter fun sm : SemLoc sig => ¬ sm.isScoped .tc = true) = {SemLoc.reg barrier0} from by decide, BI.bigSep_singleton]

theorem dealt (g : Dev nD → PrngReg) (c : Dev nD) :
    iprop(unscopedBufs c (fun b => m ((c : Thread nD τ).loc b)) ∗ unscopedSems0 c
      ∗ owes (c : Thread nD τ) (O₀ c) ∅ ∗ Pipeline.launchCred O₀ c ∗ prngReg c (g c) ∗ Park c)
    ⊢ (iprop(Own m c ∗ (semVal (barCell c) 0 ∗ Park c)) : sProp 𝕄) := by
  rw [show (unscopedBufs c (fun b => m ((c : Thread nD τ).loc b)) : sProp 𝕄) = StableHlo.held (c : Thread nD τ) (Pipeline.ucRefs τ sig) (Gen.V0 m c) from
    Pipeline.unscopedBufs_held (Ix := Unit) (Name := ℕ) (U := UU) (Lvl := ℕ) c (Gen.V0 m c), bar_only]
  unfold Own
  iintro ⟨HH, HS, HO, HC, -, HG⟩
  ihave HC' := (units (F := F) c) $$ HC
  isplitl [HH HO HC']
  · isplitl [HH]; · iexact HH
    isplitl [HC']; · iexact HC'
    iexists ∅; iexact HO
  isplitl [HS] <;> iassumption

theorem begin (g : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (g c) ∗ Park c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) := by
    unfold barCells; rw [bigSep_map]; exact .rfl
  have hat : bigSep barCells (fun g => (atPos ER g 0 ∅ 0 : sProp 𝕄)) ⊢ bigSep Finset.univ (fun c : Dev nD => (atPos ER (barCell c) 0 ∅ 0 : sProp 𝕄)) := by
    unfold barCells; rw [bigSep_map]; exact .rfl
  have hop : bigSep scCells (fun g => (openTok ER g : sProp 𝕄)) ⊢ bigSep Finset.univ (fun c : Dev nD => bigSep Finset.univ fun k : CK => (openTok ER (cell c k) : sProp 𝕄)) := by
    unfold scCells; rw [bigSep_map, bigSep_univ_prod]; exact .rfl
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (g c) ∗ Park c))
      ⊢ (bigSep Finset.univ fun c : Dev nD => iprop(Own m c ∗ (semVal (barCell c) 0 ∗ Park c)) : sProp 𝕄) from bigSep_mono fun c _ => dealt m g c) $$ H
  ihave H2 := (Entails.of_eq (bigSep_sep' (s := Finset.univ) (fun c : Dev nD => Own m c) (fun c => iprop(semVal (barCell c) 0 ∗ Park c)))) $$ H'
  icases H2 with ⟨HB, H3⟩
  ihave H4 := (Entails.of_eq (bigSep_sep' (s := Finset.univ) (fun c : Dev nD => (semVal (barCell c) 0 : sProp 𝕄)) (fun c => Park c))) $$ H3
  icases H4 with ⟨Hv, HG⟩
  ihave Hu := (Entails.of_eq (park_all (F := F))) $$ HG
  unfold Seed
  imod (Rounds.fund_launch ER (Rd m) bars_cells (fun g _ h => h) rights) $$ [Hv Hu] with ⟨%K, -, #Hinv, #Hr, Hat, Hopen, Htok⟩
  · isplitl [Hv]
    · iapply hv $$ Hv
    · iexact Hu
  imodintro
  iapply (bigSep_with_persistent (S := Finset.univ) (R := recs m K) (Φ := fun c => iprop(Share c ∗ Own m c)) fun c _ => T₀_intro m K c)
  isplitr
  · unfold recs
    isplitr; · iexact Hinv
    iexact Hr
  iapply (Entails.of_eq (bigSep_sep' (s := Finset.univ) (fun c : Dev nD => Share (F := F) c) (fun c => Own m c)).symm)
  isplitr [HB]
  · unfold Share
    iapply (Entails.of_eq (bigSep_sep' (s := Finset.univ) (fun c : Dev nD => (atPos ER (barCell c) 0 ∅ 0 : sProp 𝕄)) (fun c => iprop((bigSep Finset.univ fun k : CK => openTok ER (cell c k)) ∗ Rights c))).symm)
    isplitl [Hat]; · iapply hat $$ Hat
    iapply (Entails.of_eq (bigSep_sep' (s := Finset.univ) (fun c : Dev nD => (bigSep Finset.univ fun k : CK => openTok ER (cell c k) : sProp 𝕄)) (fun c => Rights c)).symm)
    isplitl [Hopen]; · iapply hop $$ Hopen
    iapply (Entails.of_eq (rights_eq (F := F))) $$ Htok
  · iexact HB

/-! ## The whole program -/

/-- What each device ends with. -/
def Tₙ (c : Dev nD) : sProp 𝕄 := iprop((at' c main_arg0 (X m c) ∗ at' c main_arg1 (W m c)) ∗ at' c main_v10 (Out m c) ∗ semVal (barCell c) 0)

/-- The buffers of a device that live through the whole program, conjoined one by one. -/
theorem held_all (c : Dev nD) (V : Valuation τ sig (Elt F)) :
    (StableHlo.held (c : Thread nD τ) (Pipeline.ucRefs τ sig) V : sProp 𝕄)
      = iprop(at' c main_arg0 (V main_arg0) ∗ at' c main_arg1 (V main_arg1) ∗ at' c main_v9_1 (V main_v9_1) ∗ at' c main_v8 (V main_v8)
        ∗ at' c main_v9_0 (V main_v9_0) ∗ at' c main_v10 (V main_v10)
        ∗ bigSepL [main_c, main_c_0, main_c_1, main_v1, main_v2, main_v3, main_v4, main_v5, main_v6, main_c_2, main_v7] fun b : Ref sig .tc => at' (F := F) c b (V b)) := by
  rw [← Pipeline.unscopedBufs_held (Ix := Unit) (Name := ℕ) (U := UU) (Lvl := ℕ) c V]
  unfold unscopedBufs
  exact bigSep_eq_bigSepL_of_eq [main_arg0, main_arg1, main_v9_1, main_v8, main_v9_0, main_v10, main_c, main_c_0, main_c_1, main_v1, main_v2, main_v3, main_v4, main_v5, main_v6, main_c_2, main_v7]
    (by decide) (by decide) _

theorem before (c : Dev nD) :
    iprop(StableHlo.held (c : Thread nD τ) (Pipeline.ucRefs τ sig) (Gen.V1 m c) ∗ Ghost m c ∗ OW c (O₀ c)) ⊢ Pre0 m c := by
  rw [held_all]
  unfold Pre0
  have hV : at' (F := F) c main_v10 (Gen.V1 m c main_v10) ⊢ at' c main_v10 (m ((c : Thread nD τ).loc main_v10)) :=
    Entails.of_eq (congrArg (at' (F := F) c main_v10) (Gen.V1_of m c main_v10 (by decide)))
  have hT : at' (F := F) c main_v8 (Gen.V1 m c main_v8) ⊢ tblPt (F := F) c :=
    Entails.of_eq (congrArg (at' (F := F) c main_v8) (tbl_eq m c))
  iintro ⟨⟨H0, H1, H91, H8, H90, HV, -⟩, HG, HW⟩
  isplitl [H0 H1 H91]
  · isplitl [H0]; · iexact H0
    isplitl [H1]; · iexact H1
    iexact H91
  isplitl [H8]; · iapply hT $$ H8
  isplitl [H90]; · iexists _; iexact H90
  isplitl [HV]; · iapply hV $$ HV
  isplitl [HG] <;> iassumption

theorem last (c : Dev nD) : Post1 m c ⊢ iprop(Tₙ m c ∗ ∃ W, owes (c : Thread nD τ) (0 : CellTallies nD τ sig Unit) W) := by
  unfold Post1 Tₙ
  iintro ⟨HA, HV, HB, HW⟩
  isplitr [HW]
  · isplitl [HA]; · iexact HA
    isplitl [HV] <;> iassumption
  iexact HW

/-- The program of a device as its segments: the host's operations, the first call, the second. -/
def segs (c : Dev nD) : List (Pipeline.PerCore.Seg (pcfgs (F := F)) adm (pdats m) () defs₀ 𝒱₀ L lv) :=
  [.host (Gen.seg0 m 𝒱₀ L lv (fun _ c => iprop(Ghost m c ∗ OW c (O₀ c))) c), .region (seg1 m), .region (seg2 m)]

theorem bar_unscoped : ∀ sm : SemLoc sig, sm.isScoped .tc = false → sm = .reg barrier0 := by decide

set_option backward.isDefEq.respectTransparency.types false in
/-- Every run of the four devices ends, with the arguments as they were, the result at `Out` and every counter at zero. -/
theorem run_main (ρ : Dev nD → PrngReg) : θ_run defs (onTc (τ := τ) (main (F := F))) ⟨m, fun _ => 0, ρ⟩
    (fun r => (∀ c : Dev nD, r.2.mem ((c : Thread nD τ).loc main_arg0) = X m c ∧ r.2.mem ((c : Thread nD τ).loc main_arg1) = W m c
        ∧ r.2.mem ((c : Thread nD τ).loc main_v10) = Out m c) ∧ r.2.sem = fun _ => 0) :=
  Pipeline.PerCore.θ_run_regions_kit_sems (pcfgs (F := F)) adm (pdats m) () stage_inj EP defs₀ 𝒱₀ L lv m ρ main (segs m)
    (fun c Q => by
      rewrite [Gen.main_chain c, Pipeline.PerCore.Seg.run_eq_chain,
        show (segs m c).map Pipeline.PerCore.Seg.prog = [
          StableHlo.seq (Gen.hostOps0 c),
          Prog.lift (.customCall (Pipeline.entry 0) ()),
          Prog.lift (.customCall (Pipeline.entry 1) ()) ] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := Park) (u₀ := start (F := F))
    (hu₀ := by
      unfold start
      iintro Hu
      ihave H := (ownU_pair _ _) $$ Hu
      icases H with ⟨HP, HX⟩
      imodintro
      isplitl [HP]; · iexact HP
      rw [park_all]; unfold Seed; iexact HX)
    (T₀ := T₀ m) (Tₙ := Tₙ m)
    (hch := fun c => ⟨.rfl, before m c, .rfl, last m c⟩)
    (hinit := begin m ρ)
    (QY := fun c s => (s.mem ((c : Thread nD τ).loc main_arg0) = X m c ∧ s.mem ((c : Thread nD τ).loc main_arg1) = W m c
      ∧ s.mem ((c : Thread nD τ).loc main_v10) = Out m c) ∧ s.sem (barCell c) = 0)
    (hfin := fun c s' => by
      unfold Tₙ
      iintro ⟨⟨⟨H0, H1⟩, HV, HB⟩, HSI⟩
      icombine HSI H0 gives %h0
      icombine HSI H1 gives %h1
      icombine HSI HV gives %hv
      icombine HSI HB gives %hb
      imodintro
      isplitr
      · ipureintro
        exact ⟨⟨Buf.eq_of_forall_mem_univ h0, Buf.eq_of_forall_mem_univ h1, Buf.eq_of_forall_mem_univ hv⟩, by simpa using hb⟩
      iexact HSI)
    (hQ := fun s h hs => ⟨fun c => (h c).1, sem_eq_zero hs fun c sm hsm => by
      obtain rfl := bar_unscoped sm hsm
      exact (h c).2⟩)

end Cert.KernelIdeal

end
-- ==== Proof.Same.lean ====
/-
  The printed kernel and the kernel over the extended reals are one program.
-/
module

public import proofs.«01_k».proof.Proof.Gen.Kernel
public import proofs.«01_k».proof.Proof.Gen.Kernel.Launch
public import proofs.«01_k».proof.Proof.Launch

@[expose] public section

noncomputable section

namespace Cert.Same

open Idealize.ShloMosaic Idealize.SL.Sem

variable {F : FTy → Type} [FloatOps F]

theorem quant_eq : @Cert.Kernel.cc1__quant_body F _ _ = @Cert.KernelIdeal.cc1__quant_body F _ _ := rfl

theorem fused_eq : @Cert.Kernel.cc0__fused_body F _ _ = @Cert.KernelIdeal.cc0__fused_body F _ _ := rfl

theorem pcfgs_eq : Cert.Kernel.pcfgs (F := F) = Cert.KernelIdeal.pcfgs (F := F) := rfl

theorem lit_eq : Cert.Kernel.lit0 = Cert.KernelIdeal.lit0 := rfl

theorem bodies_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | 1, (t, s) => rfl

theorem ops_eq : (fun d => Cert.Kernel.Gen.hostOps0 (F := F) d) = fun d => Cert.KernelIdeal.Gen.hostOps0 (F := F) d := rfl

section Runs

open Cert.KernelIdeal

/-- A host stretch and two calls run to the given final states. -/
def Runs (pcs : Fin 2 → Pipeline.PCfg sig Λ₀ (Elt F)) (D : Defs nD τ sig (Elt F) Λ₀) (ops : Dev nD → List (HloOp τ sig (Elt F)))
    (s : MemSt nD τ sig (Elt F)) (Q : PUnit × MemSt nD τ sig (Elt F) → Prop) : Prop :=
  θ_run (Pipeline.defs pcs D) (onTc (τ := τ) fun c => (Pipeline.chain
    [StableHlo.seq (ops c), Prog.lift (.customCall (Pipeline.entry 0) ()), Prog.lift (.customCall (Pipeline.entry 1) ())] :
      Prog (TpuEff nD τ sig (Elt F) (Pipeline.Sig Λ₀ (Fin 2) fun p => (pcs p).Adm) .tc) PUnit)) s Q

theorem runs_ideal {s : MemSt nD τ sig (Elt F)} {Q : PUnit × MemSt nD τ sig (Elt F) → Prop}
    (h : θ_run defs (onTc (τ := τ) (main (F := F))) s Q) : Runs pcfgs defs₀ (fun d => Gen.hostOps0 d) s Q := by
  rw [show main (F := F) = _ from funext Gen.main_chain] at h
  exact h

theorem runs_kernel {s : MemSt nD τ sig (Elt F)} {Q : PUnit × MemSt nD τ sig (Elt F) → Prop}
    (h : Runs pcfgs defs₀ (fun d => Gen.hostOps0 d) s Q) : Runs Cert.Kernel.pcfgs Cert.Kernel.defs₀ (fun d => Cert.Kernel.Gen.hostOps0 d) s Q := by
  rw [ops_eq, bodies_eq, pcfgs_eq]
  exact h

end Runs

section

open Cert.Kernel

theorem kernel_runs {s : MemSt nD τ sig (Elt F)} {Q : PUnit × MemSt nD τ sig (Elt F) → Prop}
    (h : Runs pcfgs defs₀ (fun d => Gen.hostOps0 d) s Q) : θ_run defs (onTc (τ := τ) (main (F := F))) s Q := by
  rw [show main (F := F) = _ from funext Gen.main_chain]
  exact h

/-- The printed kernel over any floats: it ends with the arguments as they were and every counter at zero. -/
theorem run (m : (ℓ : Loc nD τ sig) → Buf (Elt F) ℓ) (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  kernel_runs (runs_kernel (runs_ideal ((θ_run Cert.KernelIdeal.defs _ _).mono
    (fun _ h => ⟨fun c => ⟨(h.1 c).1, (h.1 c).2.1⟩, h.2⟩) (Cert.KernelIdeal.run_main (F := F) m ρ))))

end

end Cert.Same

end
-- ==== Proof.Scale.lean ====
/-
  The quantiser over the extended reals: multiplying by the reciprocal scale and dividing by the scale round to the same values.
-/
module

public import Idealize.ShloMosaic.PureOps.Ideal.Laws

@[expose] public section

noncomputable section

namespace Cert.Scale

open Idealize.ShloMosaic

/-- The constant `127`, as the programs write it. -/
def top : EReal := Ideal.ofBits .f32 0x42FE0000#32

/-- It is the real number `127`. -/
theorem top_eq : top = ((127 : ℝ) : EReal) := by
  unfold top
  simp [Ideal.ofBits, Ideal.ieee]
  norm_num [EReal.coe_mul, ← EReal.coe_mul]

theorem top_pos : 0 < top := by rw [top_eq]; exact_mod_cast (by norm_num : (0 : ℝ) < 127)

/-- The words `0` and `-∞`. -/
theorem zero_eq : Ideal.ofBits .f32 0x00000000#32 = 0 := Ideal.ofBits_zero_f32
theorem bot_eq : Ideal.ofBits .f32 0xFF800000#32 = ⊥ := by simp [Ideal.ofBits, Ideal.ieee]

/-- Over a scale that is not zero, `y · (127 / g) = y / (g / 127)`. -/
theorem mul_div {g : EReal} (hg : g ≠ 0) (y : EReal) : y * Ideal.div top g = Ideal.div y (Ideal.div g top) := by
  have ht : top ≠ 0 := top_pos.ne'
  have hb : top ≠ ⊥ := by rw [top_eq]; exact EReal.coe_ne_bot _
  have hT : top ≠ ⊤ := by rw [top_eq]; exact EReal.coe_ne_top _
  have hi : top⁻¹ ≠ 0 := by
    rw [top_eq, ← EReal.coe_inv]
    exact_mod_cast (by norm_num : ((127 : ℝ)⁻¹) ≠ 0)
  have e : Ideal.div g top = g * top⁻¹ := by unfold Ideal.div; rw [if_neg ht]
  have hne : g * top⁻¹ ≠ 0 := mul_ne_zero hg hi
  rw [e]
  unfold Ideal.div
  rw [if_neg hg, if_neg hne, EReal.mul_inv, EReal.inv_inv hb hT, mul_comm top]

/-- A value quantised by the reciprocal scale is the value quantised by the scale. -/
theorem quantised (lo y g : EReal) (f : EReal → EReal) :
    min top (max lo (f (y * Ideal.div top g))) * Ideal.div g top
      = min top (max lo (f (Ideal.div y (Ideal.div g top)))) * Ideal.div g top := by
  by_cases hg : g = 0
  · have e : Ideal.div g top = 0 := by unfold Ideal.div; rw [if_neg top_pos.ne', hg, zero_mul]
    rw [e, mul_zero, mul_zero]
  · rw [mul_div hg]

end Cert.Scale

end
-- ==== Proof.Product.lean ====
/-
  The product over the extended reals: what each device multiplies is a block of the product of the whole operands.
-/
module

public import proofs.«01_k».proof.Proof.Segs
public import proofs.«01_k».proof.Proof.Gen.ReferenceIdeal
public import proofs.«01_k».proof.Proof.Scale
public import Idealize.ShloMosaic.Lib.MatmulPlain
public import Idealize.ShloMosaic.Lib.Pipeline.Value
public import Idealize.ShloMosaic.Lib.Layout

@[expose] public section

noncomputable section

namespace Cert.KernelIdeal

open Idealize.ShloMosaic Idealize.ShloMosaic.TcCoe
open Facts₀ Facts

/-- The entry in row `r` and column `n` of the product of the whole operands. -/
def prod (x : (⟨2, ![4096, 4096]⟩ : Shape).Idx → EReal) (w : (⟨2, ![4096, 8192]⟩ : Shape).Idx → EReal) (r : Fin 4096) (n : Fin 8192) :
    EReal := ∑ k : Fin 4096, x (ix2 r k) * w (ix2 k n)

/-- The reference's product has these entries. -/
theorem dot_eq (x : FVec Ideal ⟨2, ![4096, 4096]⟩ .f32) (w : FVec Ideal ⟨2, ![4096, 8192]⟩ .f32) (r : Fin 4096) (n : Fin 8192) :
    Host.dotGeneral Cert.ReferenceIdeal.dot_S4096x4096_S4096x8192_S4096x8192_1_0_0_1_n_n none x w (ix2 r n) = prod x w r n := by
  have h := Ideal.matmul_plain_apply (M := 4096) (K := 4096) (N := 8192) none x w (constant ⟨2, ![4096, 8192]⟩ .f32 0x00000000#32) r n
  have z : (constant ⟨2, ![4096, 8192]⟩ .f32 0x00000000#32 : FVec Ideal ⟨2, ![4096, 8192]⟩ .f32) (ix2 r n) = 0 := Scale.zero_eq
  have e2 : ∀ {a b : Nat} (i : Fin a) (j : Fin b), ValueIdx.ix2 i j = ix2 i j := fun i j => by
    funext k; fin_cases k <;> rfl
  simp only [e2, z, zero_add] at h
  rw [Ideal.matmul_apply, z, zero_add] at h
  refine Eq.trans ?_ h
  exact Ideal.dotGeneral_apply _ none _ x w (ix2 r n)

/-- The product of one block of columns, entry by entry. -/
theorem pay4_eq (x : FVec Ideal S1024x4096 .bf16) (w : FVec Ideal S4096x256 .bf16) (r : Fin 1024) (n : Fin 256) :
    (Gen.k0_pay4 (F := Ideal) x w (ix2 r n) : EReal) = ∑ k : Fin 4096, x (ix2 r k) * w (ix2 k n) := by
  have h := Ideal.matmul_plain_apply (M := 1024) (K := 4096) (N := 256) none x w (constant ⟨2, ![1024, 256]⟩ .f32 0x00000000#32) r n
  have z : (constant ⟨2, ![1024, 256]⟩ .f32 0x00000000#32 : FVec Ideal ⟨2, ![1024, 256]⟩ .f32) (ix2 r n) = 0 := Scale.zero_eq
  have e2 : ∀ {a b : Nat} (i : Fin a) (j : Fin b), ValueIdx.ix2 i j = ix2 i j := fun i j => by
    funext k; fin_cases k <;> rfl
  simp only [e2, z, zero_add] at h
  refine Eq.trans ?_ h
  unfold Gen.k0_pay4
  simp only [shapeCast_self]
  rfl

variable (m : (ℓ : Loc nD τ sig) → Buf (Elt Ideal) ℓ)

/-- The devices hold the whole operands: each its rows of `x`, and all of `w`. -/
structure Holds (x : (⟨2, ![4096, 4096]⟩ : Shape).Idx → EReal) (w : (⟨2, ![4096, 8192]⟩ : Shape).Idx → EReal) : Prop where
  rows : ∀ c : Dev nD, X m c = Layout.block ⟨2, ![1024, 4096]⟩ ⟨2, ![4096, 4096]⟩ 0 4 c x
  cols : ∀ c : Dev nD, W m c = w

variable {m} {x : (⟨2, ![4096, 4096]⟩ : Shape).Idx → EReal} {w : (⟨2, ![4096, 8192]⟩ : Shape).Idx → EReal}

/-- The entries that device `c` multiplies as piece `q` of chunk `j`, in the whole product. -/
theorem piece_eq (H : Holds m x w) (c : Dev nD) (j : Fin 4) (q : Fin 8) (r : Fin 1024) (l : Fin 256) (R : Fin 4096) (N : Fin 8192)
    (hR : R.val = c.val * 1024 + r.val) (hN : N.val = (peer c j).val * 2048 + q.val * 256 + l.val) :
    (Gen.k0_pay4 (F := Ideal) (X m c) (wblk m c j q) (ix2 r l) : EReal) = prod x w R N := by
  rw [pay4_eq]
  refine Finset.sum_congr rfl fun k _ => ?_
  have e1 : X m c (ix2 r k) = x (ix2 R k) := by
    rw [H.rows c, Layout.block_apply]
    refine congrArg x (Shape.idx_ext₂ ?_ ?_)
    · rw [Layout.Tiles.idx_val]; exact hR.symm
    · rw [Layout.Tiles.idx_val]; rfl
  have e2 : wblk m c j q (ix2 k l) = w (ix2 k N) := by
    unfold wblk
    rw [H.cols c]
    exact congrArg w (Shape.idx_ext₂ rfl hN.symm)
  rw [e1, e2]

/-- The exchanged product on device `c` is its block of columns of the whole product. -/
theorem Yx_eq (H : Holds m x w) (c : Dev nD) (R : Fin 4096) (n : Fin 2048) (N : Fin 8192) (hN : N.val = c.val * 2048 + n.val) :
    Yx m c (ix2 R n) = prod x w R N := by
  have hR := R.isLt
  have hn := n.isLt
  have hs : R.val / 1024 < 4 := by omega
  have hq : n.val / 256 < 8 := by omega
  refine Eq.trans ?_ (piece_eq H (⟨R.val / 1024, hs⟩ : Fin 4) (via (⟨R.val / 1024, hs⟩ : Fin 4) c) ⟨n.val / 256, hq⟩
    ⟨R.val % 1024, Nat.mod_lt _ (by decide)⟩ ⟨n.val % 256, Nat.mod_lt _ (by decide)⟩ R N ?_ ?_)
  · show Gen.k0_pay6 (F := Ideal) _ _ (ix3 0 _ _) = _
    unfold Gen.k0_pay6
    refine (shapeCast_addUnit_apply _ _ _ _).trans ?_
    refine congrArg (Gen.k0_pay4 (F := Ideal) _ _) (funext fun k => ?_)
    fin_cases k <;> rfl
  · show R.val = R.val / 1024 * 1024 + R.val % 1024
    omega
  · rw [peer_via]
    show N.val = c.val * 2048 + n.val / 256 * 256 + n.val % 256
    omega

end Cert.KernelIdeal
end
-- ==== Proof.Largest.lean ====
/-
  The largest magnitude over the extended reals: the maximum that the devices agree on is that of the whole product.
-/
module

public import proofs.«01_k».proof.Proof.Product

@[expose] public section

noncomputable section

namespace Cert.KernelIdeal

open Idealize.ShloMosaic Idealize.ShloMosaic.TcCoe
open Facts₀ Facts

/-- The magnitude of an extended real. -/
def mag (y : EReal) : EReal := max y (-y)

theorem mag_nonneg (y : EReal) : 0 ≤ mag y := by
  unfold mag
  rcases le_total 0 y with h | h
  · exact h.trans (le_max_left _ _)
  · exact (EReal.neg_nonneg.mpr h).trans (le_max_right _ _)

/-- A bound of the maximum over some entries is a bound of where it starts and of each entry. -/
theorem fold_le {ι : Type} (s : Finset ι) (z b : EReal) (f : ι → EReal) :
    s.fold (FloatOps.maximumf (F := Ideal) (φ := .f32)) z f ≤ b ↔ z ≤ b ∧ ∀ i ∈ s, f i ≤ b :=
  Finset.fold_max_le (s := s) (f := f) (b := z) b

/-- The largest magnitude in the product of one block of columns. -/
def blockMax (x : FVec Ideal S1024x4096 .bf16) (w : FVec Ideal S4096x256 .bf16) : FVec Ideal S1 .f32 :=
  multiReduction .maximumf [1, 2] S1 (shapeCast S1x1024x256 (absf (Gen.k0_pay4 x w)) shapeCasts_S1024x256_S1x1024x256)
    0xFF800000#32 reduces_S1x1024x256_S1 (.inl rfl) rfl

theorem blockMax_le (x : FVec Ideal S1024x4096 .bf16) (w : FVec Ideal S4096x256 .bf16) (j : S1.Idx) (b : EReal) :
    (blockMax x w j : EReal) ≤ b ↔ ∀ (r : Fin 1024) (l : Fin 256), mag (Gen.k0_pay4 (F := Ideal) x w (ix2 r l)) ≤ b := by
  refine (iff_of_eq (congrArg (· ≤ b) (multiReduction_maximumf_eq_fold (F := Ideal) _ _ _ _ _ j))).trans ((fold_le _ _ _ _).trans ?_)
  have at_i : ∀ i : S1x1024x256.Idx, shapeCast S1x1024x256 (absf (Gen.k0_pay4 (F := Ideal) x w)) shapeCasts_S1024x256_S1x1024x256 i
      = mag (Gen.k0_pay4 (F := Ideal) x w (ix2 (i 1) (i 2))) := by
    intro i
    refine (shapeCast_addUnit_apply _ _ _ i).trans ?_
    refine congrArg (fun k => mag (Gen.k0_pay4 (F := Ideal) x w k)) (funext fun k => ?_)
    fin_cases k <;> rfl
  have one : ∀ k, S1.size k = 1 := by decide
  constructor
  · rintro ⟨_, h⟩ r l
    have h' := h (ix3 0 r l) (Finset.mem_filter.mpr ⟨Finset.mem_univ _, funext fun k => Fin.ext (by
      have h1 := (reduces_S1x1024x256_S1.drop (ix3 0 r l) k).isLt
      have h2 := (j k).isLt
      have h3 := one k
      omega)⟩)
    rw [at_i] at h'
    exact h'
  · intro h
    refine ⟨?_, fun i _ => ?_⟩
    · exact (show (Ideal.ofBits .f32 0xFF800000#32 : EReal) ≤ b from Scale.bot_eq ▸ bot_le)
    · rw [at_i]; exact h _ _

/-- Its one entry, taken out through a shape of three axes. -/
theorem step_eq (a : EReal) (v : FVec Ideal S1 .f32) :
    ∃ j : S1.Idx, (Scalar.maximumf (F := Ideal) (φ := .f32) a
      (extractAt ![0, 0, 0] (shapeCast S1x1x1 v shapeCasts_S1_S1x1x1) inpos_S1x1x1_p0_0_0) : EReal) = max a (v j) := ⟨_, rfl⟩

/-- One point's step of the running maximum. -/
theorem pay5_le (x : FVec Ideal S1024x4096 .bf16) (w : FVec Ideal S4096x256 .bf16) (a b : EReal) :
    (Gen.k0_pay5 (F := Ideal) x w a : EReal) ≤ b
      ↔ a ≤ b ∧ ∀ (r : Fin 1024) (l : Fin 256), mag (Gen.k0_pay4 (F := Ideal) x w (ix2 r l)) ≤ b := by
  obtain ⟨j, e⟩ := step_eq a (blockMax x w)
  refine (iff_of_eq (congrArg (· ≤ b) (show (Gen.k0_pay5 (F := Ideal) x w a : EReal) = _ from e))).trans ?_
  rw [max_le_iff, blockMax_le]

variable (m : (ℓ : Loc nD τ sig) → Buf (Elt Ideal) ℓ)

/-- The running maximum before point `t`. -/
theorem amx_le (c : Dev nD) (b : EReal) : ∀ t : ℕ, (amx m c t : EReal) ≤ b ↔ 0 ≤ b ∧ ∀ s < t, ∀ (r : Fin 1024) (l : Fin 256),
    mag (Gen.k0_pay4 (F := Ideal) (X m c) (wblk m c ⟨s / 8 % 4, Nat.mod_lt _ (by decide)⟩ ⟨s % 8, Nat.mod_lt _ (by decide)⟩) (ix2 r l)) ≤ b
  | 0 => by
    have e : (amx m c 0 : EReal) = 0 := Scale.zero_eq
    rw [e]
    exact ⟨fun h => ⟨h, fun s hs => absurd hs (Nat.not_lt_zero s)⟩, fun h => h.1⟩
  | t + 1 => by
    unfold amx
    rw [pay5_le, amx_le c b t]
    constructor
    · rintro ⟨⟨h0, h⟩, h'⟩
      refine ⟨h0, fun s hs => ?_⟩
      rcases Nat.lt_succ_iff_lt_or_eq.mp hs with h1 | rfl
      · exact h s h1
      · exact h'
    · rintro ⟨h0, h⟩
      exact ⟨⟨h0, fun s hs => h s (Nat.lt_succ_of_lt hs)⟩, h t (Nat.lt_succ_self t)⟩

/-- The device's own maximum, piece by piece. -/
theorem gl_le (c : Dev nD) (b : EReal) : (gl m c : EReal) ≤ b ↔ 0 ≤ b ∧ ∀ (j : Fin 4) (q : Fin 8) (r : Fin 1024) (l : Fin 256),
    mag (Gen.k0_pay4 (F := Ideal) (X m c) (wblk m c j q) (ix2 r l)) ≤ b := by
  unfold gl
  rw [amx_le]
  refine and_congr_right fun _ => ⟨fun h j q r l => ?_, fun h s _ r l => h _ _ r l⟩
  have hj := j.isLt
  have hq := q.isLt
  have h' := h (8 * j.val + q.val) (by omega) r l
  have e1 : (⟨(8 * j.val + q.val) / 8 % 4, Nat.mod_lt _ (by decide)⟩ : Fin 4) = j := Fin.ext (by show (8 * j.val + q.val) / 8 % 4 = j.val; omega)
  have e2 : (⟨(8 * j.val + q.val) % 8, Nat.mod_lt _ (by decide)⟩ : Fin 8) = q := Fin.ext (by show (8 * j.val + q.val) % 8 = q.val; omega)
  rw [e1, e2] at h'
  exact h'

/-- A bound of the maximum of four values, taken from any of them on. -/
theorem four_le (f : Fin 4 → EReal) (c : Fin 4) (b : EReal) :
    max (max (max (f c) (f (c - 1))) (f (c - 2))) (f (c - 3)) ≤ b ↔ ∀ s, f s ≤ b := by
  rw [max_le_iff, max_le_iff, max_le_iff]
  have cover : ∀ c s : Fin 4, s = c ∨ s = c - 1 ∨ s = c - 2 ∨ s = c - 3 := by decide
  constructor
  · rintro ⟨⟨⟨h0, h1⟩, h2⟩, h3⟩ s
    rcases cover c s with h | h | h | h
    · rw [h]; exact h0
    · rw [h]; exact h1
    · rw [h]; exact h2
    · rw [h]; exact h3
  · exact fun h => ⟨⟨⟨h _, h _⟩, h _⟩, h _⟩

/-- The last step, over the three maxima received. -/
theorem last_eq (g p q r : Ideal .f32) (i : S8x128.Idx) :
    (Gen.k0_pay1 (F := Ideal) (Gen.k0_pay3 (F := Ideal) g (fun _ => p) (fun _ => q)) (fun _ => r) i : EReal) = max (max (max g p) q) r := rfl

theorem tile_eq (g : Ideal .f32) (i : S8x128.Idx) : Gen.k0_pay2 (F := Ideal) g i = g := by
  unfold Gen.k0_pay2
  rw [shapeCast_self]
  rfl

/-- The maximum that device `c` ends with is that of the four devices. -/
theorem G_le (c : Dev nD) (i : S8x128.Idx) (b : EReal) : (G m c i : EReal) ≤ b ↔ ∀ s : Dev nD, (gl m s : EReal) ≤ b := by
  have t : ∀ d : Fin 4, AA m c (ix3 d 0 0) = gl m (c - d) := fun d => tile_eq (gl m (c - d)) (ix2 0 0)
  unfold G aaRd
  rw [t 1, t 2, t 3, last_eq]
  exact four_le (fun s => gl m s) c b

variable {m} {x : (⟨2, ![4096, 4096]⟩ : Shape).Idx → EReal} {w : (⟨2, ![4096, 8192]⟩ : Shape).Idx → EReal}

/-- A bound of that maximum is a bound of every entry of the whole product. -/
theorem G_le_iff (H : Holds m x w) (c : Dev nD) (i : S8x128.Idx) (b : EReal) :
    (G m c i : EReal) ≤ b ↔ ∀ (r : Fin 4096) (n : Fin 8192), mag (prod x w r n) ≤ b := by
  rw [G_le]
  constructor
  · intro h r n
    have hr := r.isLt
    have hn := n.isLt
    have hs : r.val / 1024 < 4 := by omega
    have hd : n.val / 2048 < 4 := by omega
    have h' := ((gl_le m (⟨r.val / 1024, hs⟩ : Fin 4) b).mp (h _)).2 (via (⟨r.val / 1024, hs⟩ : Fin 4) (⟨n.val / 2048, hd⟩ : Fin 4))
      ⟨n.val % 2048 / 256, by omega⟩ ⟨r.val % 1024, Nat.mod_lt _ (by decide)⟩ ⟨n.val % 256, Nat.mod_lt _ (by decide)⟩
    rw [piece_eq H _ _ _ _ _ r n (by show r.val = r.val / 1024 * 1024 + r.val % 1024; omega)
      (by rw [peer_via]; show n.val = n.val / 2048 * 2048 + n.val % 2048 / 256 * 256 + n.val % 256; omega)] at h'
    exact h'
  · intro h s
    rw [gl_le]
    refine ⟨(mag_nonneg _).trans (h 0 0), fun j q r l => ?_⟩
    have h1 : s.val < 4 := s.isLt
    have h2 : (peer s j).val < 4 := (peer s j).isLt
    have h3 := q.isLt
    have h4 := r.isLt
    have h5 := l.isLt
    rw [piece_eq H s j q r l ⟨s.val * 1024 + r.val, by omega⟩ ⟨(peer s j).val * 2048 + q.val * 256 + l.val, by omega⟩ rfl rfl]
    exact h _ _

/-- The largest magnitude of the reference's product. -/
def peak (x : FVec Ideal ⟨2, ![4096, 4096]⟩ .f32) (w : FVec Ideal ⟨2, ![4096, 8192]⟩ .f32) : FVec Ideal Cert.ReferenceIdeal.S_ .f32 :=
  Host.reduce FloatOps.maximumf
    (Host.absf (Host.dotGeneral Cert.ReferenceIdeal.dot_S4096x4096_S4096x8192_S4096x8192_1_0_0_1_n_n none x w))
    (constant Cert.ReferenceIdeal.S_ .f32 0xFF800000#32) Cert.ReferenceIdeal.Facts₀.reducesTo_S4096x8192_S_d0_1 Cert.ReferenceIdeal.Facts₀.h_S_

theorem peak_le_iff (x : FVec Ideal ⟨2, ![4096, 4096]⟩ .f32) (w : FVec Ideal ⟨2, ![4096, 8192]⟩ .f32) (j : Cert.ReferenceIdeal.S_.Idx)
    (b : EReal) : (peak x w j : EReal) ≤ b ↔ ∀ (r : Fin 4096) (n : Fin 8192), mag (prod x w r n) ≤ b := by
  unfold peak
  rw [Host.reduce_eq_fold, fold_le]
  have at_i : ∀ i : (⟨2, ![4096, 8192]⟩ : Shape).Idx,
      (Host.absf (Host.dotGeneral Cert.ReferenceIdeal.dot_S4096x4096_S4096x8192_S4096x8192_1_0_0_1_n_n none x w) i : EReal)
        = mag (prod x w (i 0) (i 1)) := fun i =>
    congrArg mag ((congrArg _ (ix2_eta i).symm).trans (dot_eq x w (i 0) (i 1)))
  constructor
  · rintro ⟨_, h⟩ r n
    have h' := h (ix2 r n) (Finset.mem_filter.mpr ⟨Finset.mem_univ _, funext fun k => k.elim0⟩)
    rw [at_i] at h'
    exact h'
  · intro h
    refine ⟨?_, fun i _ => ?_⟩
    · exact (show (Ideal.ofBits .f32 0xFF800000#32 : EReal) ≤ b from Scale.bot_eq ▸ bot_le)
    · rw [at_i]; exact h _ _

/-- The two maxima are the same number. -/
theorem G_eq_peak (H : Holds m x w) (c : Dev nD) (i : S8x128.Idx) (j : Cert.ReferenceIdeal.S_.Idx) :
    (G m c i : EReal) = peak x w j :=
  eq_of_forall_ge_iff fun b => (G_le_iff H c i b).trans (peak_le_iff x w j b).symm

end Cert.KernelIdeal
end
-- ==== Proof.Value.lean ====
/-
  The result over the extended reals: each device ends with its block of columns of the reference's result.
-/
module

public import proofs.«01_k».proof.Proof.Largest
public import proofs.«01_k».proof.Proof.Gen.ReferenceIdeal.Run

@[expose] public section

noncomputable section

namespace Cert.KernelIdeal

open Idealize.ShloMosaic Idealize.ShloMosaic.TcCoe
open Facts₀ Facts

/-- The reference's product. -/
def whole (x : FVec Ideal ⟨2, ![4096, 4096]⟩ .bf16) (w : FVec Ideal ⟨2, ![4096, 8192]⟩ .bf16) : FVec Ideal ⟨2, ![4096, 8192]⟩ .f32 :=
  Host.dotGeneral Cert.ReferenceIdeal.dot_S4096x4096_S4096x8192_S4096x8192_1_0_0_1_n_n none
    (extf .f32 x Cert.ReferenceIdeal.Facts₀.bitsLt_bf16_f32) (extf .f32 w Cert.ReferenceIdeal.Facts₀.bitsLt_bf16_f32)

/-- The reference's scale. -/
def scale (x : FVec Ideal ⟨2, ![4096, 4096]⟩ .bf16) (w : FVec Ideal ⟨2, ![4096, 8192]⟩ .bf16) : FVec Ideal Cert.ReferenceIdeal.S_ .f32 :=
  Host.divf (Host.reduce FloatOps.maximumf (Host.absf (whole x w))
    (constant Cert.ReferenceIdeal.S_ .f32 0xFF800000#32) Cert.ReferenceIdeal.Facts₀.reducesTo_S4096x8192_S_d0_1 Cert.ReferenceIdeal.Facts₀.h_S_)
    (constant Cert.ReferenceIdeal.S_ .f32 0x42FE0000#32)

/-- The reference's result. -/
def result (x : FVec Ideal ⟨2, ![4096, 4096]⟩ .bf16) (w : FVec Ideal ⟨2, ![4096, 8192]⟩ .bf16) : FVec Ideal ⟨2, ![4096, 8192]⟩ .f32 :=
  mulf (minimumf (broadcastInDim Cert.ReferenceIdeal.S4096x8192 ![] Cert.ReferenceIdeal.Facts₀.bcast_S_S4096x8192 (id (constant Cert.ReferenceIdeal.S_ .f32 0x42FE0000#32)))
      (maximumf (broadcastInDim Cert.ReferenceIdeal.S4096x8192 ![] Cert.ReferenceIdeal.Facts₀.bcast_S_S4096x8192 (id (constant Cert.ReferenceIdeal.S_ .f32 0xC2FE0000#32)))
        (Host.roundeven (Host.divf (whole x w)
          (broadcastInDim Cert.ReferenceIdeal.S4096x8192 ![] Cert.ReferenceIdeal.Facts₀.bcast_S_S4096x8192 (scale x w))))))
    (broadcastInDim Cert.ReferenceIdeal.S4096x8192 ![] Cert.ReferenceIdeal.Facts₀.bcast_S_S4096x8192 (scale x w))

/-- The quantiser by the scale `g / 127`, as the reference spells it. -/
def quantiser (y g : EReal) : EReal :=
  min Scale.top (max (Ideal.ofBits .f32 0xC2FE0000#32) (Ideal.liftRound Ideal.roundHalfEven (Ideal.div y (Ideal.div g Scale.top))))
    * Ideal.div g Scale.top

/-- An entry of the reference's result, over any product `Y` and any largest magnitude `s`. -/
theorem entry (Y : FVec Ideal ⟨2, ![4096, 8192]⟩ .f32) (s : FVec Ideal Cert.ReferenceIdeal.S_ .f32) (i : (⟨2, ![4096, 8192]⟩ : Shape).Idx) :
    ∃ j : Cert.ReferenceIdeal.S_.Idx,
      ((mulf (minimumf (broadcastInDim Cert.ReferenceIdeal.S4096x8192 ![] Cert.ReferenceIdeal.Facts₀.bcast_S_S4096x8192 (id (constant Cert.ReferenceIdeal.S_ .f32 0x42FE0000#32)))
        (maximumf (broadcastInDim Cert.ReferenceIdeal.S4096x8192 ![] Cert.ReferenceIdeal.Facts₀.bcast_S_S4096x8192 (id (constant Cert.ReferenceIdeal.S_ .f32 0xC2FE0000#32)))
          (Host.roundeven (Host.divf Y
            (broadcastInDim Cert.ReferenceIdeal.S4096x8192 ![] Cert.ReferenceIdeal.Facts₀.bcast_S_S4096x8192
              (Host.divf s (constant Cert.ReferenceIdeal.S_ .f32 0x42FE0000#32)))))))
        (broadcastInDim Cert.ReferenceIdeal.S4096x8192 ![] Cert.ReferenceIdeal.Facts₀.bcast_S_S4096x8192
          (Host.divf s (constant Cert.ReferenceIdeal.S_ .f32 0x42FE0000#32))) : FVec Ideal ⟨2, ![4096, 8192]⟩ .f32) i : EReal)
        = quantiser (Y i) (s j) := ⟨_, rfl⟩

/-- What one point of the second kernel writes, entry by entry. -/
theorem pay1_eq (g : EReal) (v : FVec Ideal S512x2048 .bf16) (i : S512x2048.Idx) :
    (Gen.k1_pay1 (F := Ideal) (fun _ => g) v i : EReal) = quantiser (v i) g := by
  refine Eq.trans ?_ (Scale.quantised (Ideal.ofBits .f32 0xC2FE0000#32) (v i) g (Ideal.liftRound Ideal.roundHalfEven))
  unfold Gen.k1_pay1
  rw [shapeCast_self]
  rfl

variable {m : (ℓ : Loc nD τ sig) → Buf (Elt Ideal) ℓ}
  {x : FVec Ideal ⟨2, ![4096, 4096]⟩ .bf16} {w : FVec Ideal ⟨2, ![4096, 8192]⟩ .bf16}

/-- Device `c` ends with its block of columns. -/
theorem Out_eq (H : Holds m x w) (c : Dev nD) :
    Out m c = Layout.block ⟨2, ![4096, 2048]⟩ ⟨2, ![4096, 8192]⟩ 1 4 c (result x w) := by
  refine funext fun i => ?_
  rw [Layout.block_apply]
  obtain ⟨j, e⟩ := entry (whole x w) (peak (extf .f32 x Cert.ReferenceIdeal.Facts₀.bitsLt_bf16_f32) (extf .f32 w Cert.ReferenceIdeal.Facts₀.bitsLt_bf16_f32))
    (Layout.Tiles.idx (S := ⟨2, ![4096, 2048]⟩) (T := ⟨2, ![4096, 8192]⟩) (a := 1) (k := 4) (by decide) c i)
  have h0 : (i 0).val < 4096 := (i 0).isLt
  have h1 : (i 1).val < 2048 := (i 1).isLt
  have hc : c.val < 4 := c.isLt
  refine Eq.trans ?_ (show quantiser _ _ = result x w _ from e.symm)
  refine Eq.trans ?_ (congrArg (quantiser _) (show (G m c (ix2 0 0) : EReal) = _ from G_eq_peak H c (ix2 0 0) j))
  have a : Out m c i = quant m c (⟨(i 0).val / 512, by omega⟩ : Fin 8) (ix2 ⟨(i 0).val % 512, Nat.mod_lt _ (by decide)⟩ (i 1)) := rfl
  rw [a]
  refine (pay1_eq (G m c (ix2 0 0)) _ _).trans (congrArg (quantiser · _) ?_)
  have n := Yx_eq H c (⟨(i 0).val, h0⟩ : Fin 4096) (⟨(i 1).val, h1⟩ : Fin 2048) (⟨c.val * 2048 + (i 1).val, by omega⟩ : Fin 8192) rfl
  have d := dot_eq x w (⟨(i 0).val, h0⟩ : Fin 4096) (⟨c.val * 2048 + (i 1).val, by omega⟩ : Fin 8192)
  have p : ∀ k : S4096x2048.Idx, (k 0).val = (i 0).val → (k 1).val = (i 1).val →
      Yx m c k = whole x w (Layout.Tiles.idx (S := ⟨2, ![4096, 2048]⟩) (T := ⟨2, ![4096, 8192]⟩) (a := 1) (k := 4) (by decide) c i) := by
    intro k k0 k1
    have e1 : k = ix2 (⟨(i 0).val, h0⟩ : Fin 4096) (⟨(i 1).val, h1⟩ : Fin 2048) := Shape.idx_ext₂ k0 k1
    have e2 : ix2 (⟨(i 0).val, h0⟩ : Fin 4096) (⟨c.val * 2048 + (i 1).val, by omega⟩ : Fin 8192)
        = Layout.Tiles.idx (S := ⟨2, ![4096, 2048]⟩) (T := ⟨2, ![4096, 8192]⟩) (a := 1) (k := 4) (by decide) c i :=
      Shape.idx_ext₂ rfl rfl
    rw [e1, ← e2]
    exact n.trans d.symm
  refine p _ ?_ rfl
  show (i 0).val / 512 * 512 + (i 0).val % 512 = (i 0).val
  omega

end Cert.KernelIdeal
end
-- ==== Proof.lean ====
/-
  The proof of the claims: `Proof/Launch.lean` proves the run of the whole program over any floats, `Proof/Gen` that of the
  reference; here they are put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The printed kernel runs, leaves its arguments and ends with every counter at zero. -/
theorem frame_kernel : Cert.quiescent_Kernel := fun m ρ _ => Cert.Same.run (F := Bits) m ρ

/-- So does the kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of columns of the reference's result. -/
theorem value : Cert.algebraic_KernelIdeal_ReferenceIdeal := fun m g m' g' _ h => by
  have H : Cert.KernelIdeal.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (h c).1, fun c => (h c).2⟩
  refine ⟨Cert.KernelIdeal.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r hr c => ⟨?_, (hr.1 c).1, (hr.1 c).2.1⟩) (Cert.KernelIdeal.run_main (F := Ideal) m g),
    (θ_run Cert.ReferenceIdeal.defs _ _).mono (fun r hr => ⟨?_, (hr 0).2⟩) (Cert.ReferenceIdeal.Value.run (F := Ideal) m' g')⟩
  · exact (hr.1 c).2.2.trans (Cert.KernelIdeal.Out_eq H c)
  · exact (hr 0).1

theorem claim : Cert.Claim := ⟨Cert.Kernel.Gen.facts, Cert.KernelIdeal.Gen.facts, Cert.ReferenceIdeal.Gen.facts,
  frame_kernel, frame_ideal, frame_reference, trivial, value⟩

end Cert.Proof

end
